-- ==== Defs.lean ====
def Pre_Kernel [hPre_task_exists : Cert.Pre_task_exists.Facts] (m : (ℓ : Loc Cert.Kernel.nD Cert.Kernel.τ Cert.Kernel.sig) → Buf (Elt Bits) ℓ) : Prop :=
  ∀ c : Dev Cert.Kernel.nD,
    (Cert.Pre_task_exists.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_task_exists : Cert.Pre_task_exists.Facts] (m : (ℓ : Loc Cert.KernelIdeal.nD Cert.KernelIdeal.τ Cert.KernelIdeal.sig) → Buf (Elt Ideal) ℓ) : Prop :=
  ∀ c : Dev Cert.KernelIdeal.nD,
    (Cert.Pre_task_exists.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_task_exists : Cert.Pre_task_exists.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_task_exists : Cert.Pre_task_exists.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_v17) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v179) = v1 c
          ∧ r.2.mem ((c.tc : Thread Cert.ReferenceIdeal.nD Cert.ReferenceIdeal.τ).loc Cert.ReferenceIdeal.main_v139) = v2 c
          ∧ r.2.mem ((c.tc : Thread Cert.ReferenceIdeal.nD Cert.ReferenceIdeal.τ).loc Cert.ReferenceIdeal.main_v149) = v3 c
          ∧ r.2.mem ((c.tc : Thread Cert.ReferenceIdeal.nD Cert.ReferenceIdeal.τ).loc Cert.ReferenceIdeal.main_v112) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_task_exists : Cert.Pre_task_exists.Facts) (hPre_finite_weights : Cert.Pre_finite_weights.Facts),
    quiescent_Kernel (hKernel := hKernel) (hPre_task_exists := hPre_task_exists)
    ∧ quiescent_KernelIdeal (hKernelIdeal := hKernelIdeal) (hPre_task_exists := hPre_task_exists)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S4x2048x1024 : Shape := ⟨3, ![4, 2048, 1024]⟩
abbrev S2048 : Shape := ⟨1, ![2048]⟩
abbrev S256x2048 : Shape := ⟨2, ![256, 2048]⟩
abbrev S256 : Shape := ⟨1, ![256]⟩
abbrev S3x256x4 : Shape := ⟨3, ![3, 256, 4]⟩
abbrev S4x256x32 : Shape := ⟨3, ![4, 256, 32]⟩
abbrev S4x32 : Shape := ⟨2, ![4, 32]⟩
abbrev S4x32x256 : Shape := ⟨3, ![4, 32, 256]⟩
abbrev S4x256 : Shape := ⟨2, ![4, 256]⟩
abbrev S6x1024 : Shape := ⟨2, ![6, 1024]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S256 : S_.BroadcastsInDim S256 (![] : Fin 0 → Fin S256.rank)
  reducesTo_S256_S_d0 : S256.ReducesTo [0] S_
  bcast_S_S3x256x4 : S_.BroadcastsInDim S3x256x4 (![] : Fin 0 → Fin S3x256x4.rank)
  reducesTo_S3x256x4_S_d0_1_2 : S3x256x4.ReducesTo [0, 1, 2] S_

variable [Facts]

def fn_part1 {F : FTy → Type} [FloatOps F] (main_arg7 : FVec F S3x256x4 .f32) (main_v12 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v12 main_v16
  let main_v18 : FVec F S3x256x4 .f32 := Host.absf main_arg7
  let main_cst_6 : FVec F S_ .f32 := constant S_ .f32 0x7F800000#32
  let main_v19 : FVec F S3x256x4 .f32 := broadcastInDim S3x256x4 ![] bcast_S_S3x256x4 main_cst_6
  let main_v20 : IVec S3x256x4 1 := cmpf .olt main_v18 main_v19
  let main_c_7 : IVec S_ 1 := constantI S_ 1 1#1
  let main_v21 : IVec S_ 1 := (fun x v => Host.reduce IntOp.andi x v reducesTo_S3x256x4_S_d0_1_2 h_S_) main_v20 main_c_7
  let main_v22 : IVec S_ 1 := andi main_v17 main_v21
  main_v22

def fn {F : FTy → Type} [FloatOps F] (main_arg0 : FVec F S4x2048x1024 .f32) (main_arg1 : FVec F S4x2048x1024 .f32) (main_arg2 : FVec F S2048 .f32) (main_arg3 : FVec F S2048 .f32) (main_arg4 : FVec F S256x2048 .f32) (main_arg5 : FVec F S256 .f32) (main_arg6 : FVec F S256 .f32) (main_arg7 : FVec F S3x256x4 .f32) (main_arg8 : FVec F S4x256x32 .f32) (main_arg9 : FVec F S4x32 .f32) (main_arg10 : FVec F S4x32x256 .f32) (main_arg11 : FVec F S4x256 .f32) (main_arg12 : FVec F S6x1024 .f32) (main_arg13 : IVec S_ 32) : IVec S_ 1 :=
  let main_c : IVec S_ 32 := constantI S_ 32 0#32
  let main_v0 : IVec S_ 1 := cmpi .sge main_arg13 main_c
  let main_c_0 : IVec S_ 32 := constantI S_ 32 3#32
  let main_v1 : IVec S_ 1 := cmpi .slt main_arg13 main_c_0
  let main_v2 : IVec S_ 1 := andi main_v0 main_v1
  let main_v3 : FVec F S256x2048 .f32 := Host.absf main_arg4
  let main_cst : FVec F S_ .f32 := constant S_ .f32 0x7F800000#32
  let main_v4 : FVec F S256x2048 .f32 := broadcastInDim S256x2048 ![] bcast_S_S256x2048 main_cst
  let main_v5 : IVec S256x2048 1 := cmpf .olt main_v3 main_v4
  let main_c_1 : IVec S_ 1 := constantI S_ 1 1#1
  let main_v6 : IVec S_ 1 := (fun x v => Host.reduce IntOp.andi x v reducesTo_S256x2048_S_d0_1 h_S_) main_v5 main_c_1
  let main_v7 : IVec S_ 1 := andi main_v2 main_v6
  let main_v8 : FVec F S256 .f32 := Host.absf main_arg5
  let main_cst_2 : FVec F S_ .f32 := constant S_ .f32 0x7F800000#32
  let main_v9 : FVec F S256 .f32 := broadcastInDim S256 ![] bcast_S_S256 main_cst_2
  let main_v10 : IVec S256 1 := cmpf .olt main_v8 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v7 main_v11
  let main_v13 : FVec F S256 .f32 := Host.absf main_arg6
  let main_cst_4 : FVec F S_ .f32 := constant S_ .f32 0x7F800000#32
  let main_v14 : FVec F S256 .f32 := broadcastInDim S256 ![] bcast_S_S256 main_cst_4
  let main_v15 : IVec S256 1 := cmpf .olt main_v13 main_v14
  let main_c_5 : IVec S_ 1 := constantI S_ 1 1#1
  fn_part1 (F := F) main_arg7 main_v12 main_v15 main_c_5
-- ==== Pre_task_exists.lean ====
abbrev S4x2048x1024 : Shape := ⟨3, ![4, 2048, 1024]⟩
abbrev S2048 : Shape := ⟨1, ![2048]⟩
abbrev S256x2048 : Shape := ⟨2, ![256, 2048]⟩
abbrev S256 : Shape := ⟨1, ![256]⟩
abbrev S3x256x4 : Shape := ⟨3, ![3, 256, 4]⟩
abbrev S4x256x32 : Shape := ⟨3, ![4, 256, 32]⟩
abbrev S4x32 : Shape := ⟨2, ![4, 32]⟩
abbrev S4x32x256 : Shape := ⟨3, ![4, 32, 256]⟩
abbrev S4x256 : Shape := ⟨2, ![4, 256]⟩
abbrev S6x1024 : Shape := ⟨2, ![6, 1024]⟩
abbrev S_ : Shape := ⟨0, ![]⟩

class Facts : Prop where

variable [Facts]

def fn {F : FTy → Type} [FloatOps F] (main_arg0 : FVec F S4x2048x1024 .f32) (main_arg1 : FVec F S4x2048x1024 .f32) (main_arg2 : FVec F S2048 .f32) (main_arg3 : FVec F S2048 .f32) (main_arg4 : FVec F S256x2048 .f32) (main_arg5 : FVec F S256 .f32) (main_arg6 : FVec F S256 .f32) (main_arg7 : FVec F S3x256x4 .f32) (main_arg8 : FVec F S4x256x32 .f32) (main_arg9 : FVec F S4x32 .f32) (main_arg10 : FVec F S4x32x256 .f32) (main_arg11 : FVec F S4x256 .f32) (main_arg12 : FVec F S6x1024 .f32) (main_arg13 : IVec S_ 32) : IVec S_ 1 :=
  let main_c : IVec S_ 32 := constantI S_ 32 0#32
  let main_v0 : IVec S_ 1 := cmpi .sge main_arg13 main_c
  let main_c_0 : IVec S_ 32 := constantI S_ 32 3#32
  let main_v1 : IVec S_ 1 := cmpi .slt main_arg13 main_c_0
  let main_v2 : IVec S_ 1 := andi main_v0 main_v1
  main_v2
-- ==== Kernel.lean ====
abbrev S4x2048x1024 : Shape := ⟨3, ![4, 2048, 1024]⟩
abbrev S2048 : Shape := ⟨1, ![2048]⟩
abbrev S256x2048 : Shape := ⟨2, ![256, 2048]⟩
abbrev S256 : Shape := ⟨1, ![256]⟩
abbrev S3x256x4 : Shape := ⟨3, ![3, 256, 4]⟩
abbrev S4x256x32 : Shape := ⟨3, ![4, 256, 32]⟩
abbrev S4x32 : Shape := ⟨2, ![4, 32]⟩
abbrev S4x32x256 : Shape := ⟨3, ![4, 32, 256]⟩
abbrev S4x256 : Shape := ⟨2, ![4, 256]⟩
abbrev S6x1024 : Shape := ⟨2, ![6, 1024]⟩
abbrev S_ : Shape := ⟨0, ![]⟩
abbrev S8192x1024 : Shape := ⟨2, ![8192, 1024]⟩
abbrev S1x1 : Shape := ⟨2, ![1, 1]⟩
abbrev S1x2048 : Shape := ⟨2, ![1, 2048]⟩
abbrev S1x256 : Shape := ⟨2, ![1, 256]⟩
abbrev S128x256 : Shape := ⟨2, ![128, 256]⟩
abbrev S2x8x8x128 : Shape := ⟨4, ![2, 8, 8, 128]⟩
abbrev S1024x1024 : Shape := ⟨2, ![1024, 1024]⟩
abbrev S2x1x8x128 : Shape := ⟨4, ![2, 1, 8, 128]⟩
abbrev S258x2048 : Shape := ⟨2, ![258, 2048]⟩
abbrev S256x1024 : Shape := ⟨2, ![256, 1024]⟩
abbrev S256x132 : Shape := ⟨2, ![256, 132]⟩
abbrev S1x132 : Shape := ⟨2, ![1, 132]⟩
abbrev S4x128 : Shape := ⟨2, ![4, 128]⟩
abbrev S11 : Shape := ⟨1, ![11]⟩
abbrev S1x4 : Shape := ⟨2, ![1, 4]⟩
abbrev S1 : Shape := ⟨1, ![1]⟩
abbrev S1x1024 : Shape := ⟨2, ![1, 1024]⟩
abbrev S1x256x32 : Shape := ⟨3, ![1, 256, 32]⟩
abbrev S256x32 : Shape := ⟨2, ![256, 32]⟩
abbrev S256x128 : Shape := ⟨2, ![256, 128]⟩
abbrev S1x256x4 : Shape := ⟨3, ![1, 256, 4]⟩
abbrev S256x4 : Shape := ⟨2, ![256, 4]⟩
abbrev S1x32 : Shape := ⟨2, ![1, 32]⟩
abbrev S1024 : Shape := ⟨1, ![1024]⟩
abbrev S1024x1 : Shape := ⟨2, ![1024, 1]⟩
abbrev S1024x256 : Shape := ⟨2, ![1024, 256]⟩
abbrev S1024x132 : Shape := ⟨2, ![1024, 132]⟩
abbrev S1024x128 : Shape := ⟨2, ![1024, 128]⟩
abbrev S1024x4 : Shape := ⟨2, ![1024, 4]⟩
abbrev S1x1x8x128 : Shape := ⟨4, ![1, 1, 8, 128]⟩
abbrev S4 : Shape := ⟨1, ![4]⟩
abbrev S1x8x8x128 : Shape := ⟨4, ![1, 8, 8, 128]⟩
abbrev S8x8x128 : Shape := ⟨3, ![8, 8, 128]⟩
abbrev S4x2048x1 : Shape := ⟨3, ![4, 2048, 1]⟩

abbrev nBuf : Space → Nat
  | .hbm => 35
  | .vmem => 28
  | .smem => 1
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S2048, .f32⟩
  | .hbm, ⟨3, _⟩ => ⟨S2048, .f32⟩
  | .hbm, ⟨4, _⟩ => ⟨S256x2048, .f32⟩
  | .hbm, ⟨5, _⟩ => ⟨S256, .f32⟩
  | .hbm, ⟨6, _⟩ => ⟨S256, .f32⟩
  | .hbm, ⟨7, _⟩ => ⟨S3x256x4, .f32⟩
  | .hbm, ⟨8, _⟩ => ⟨S4x256x32, .f32⟩
  | .hbm, ⟨9, _⟩ => ⟨S4x32, .f32⟩
  | .hbm, ⟨10, _⟩ => ⟨S4x32x256, .f32⟩
  | .hbm, ⟨11, _⟩ => ⟨S4x256, .f32⟩
  | .hbm, ⟨12, _⟩ => ⟨S6x1024, .f32⟩
  | .hbm, ⟨13, _⟩ => ⟨S_, .i32⟩
  | .hbm, ⟨14, _⟩ => ⟨S8192x1024, .f32⟩
  | .hbm, ⟨15, _⟩ => ⟨S8192x1024, .f32⟩
  | .hbm, ⟨16, _⟩ => ⟨S1x1, .i32⟩
  | .hbm, ⟨17, _⟩ => ⟨S1x2048, .f32⟩
  | .hbm, ⟨18, _⟩ => ⟨S1x2048, .f32⟩
  | .hbm, ⟨19, _⟩ => ⟨S1x256, .f32⟩
  | .hbm, ⟨20, _⟩ => ⟨S1x256, .f32⟩
  | .hbm, ⟨21, _⟩ => ⟨S128x256, .f32⟩
  | .hbm, ⟨22, _⟩ => ⟨S8192x1024, .f32⟩
  | .hbm, ⟨23, _⟩ => ⟨S8192x1024, .f32⟩
  | .hbm, ⟨24, _⟩ => ⟨S2x8x8x128, .f32⟩
  | .hbm, ⟨25, _⟩ => ⟨S1x1, .f32⟩
  | .hbm, ⟨26, _⟩ => ⟨S4x2048x1024, .f32⟩
  | .hbm, ⟨27, _⟩ => ⟨S4x2048x1024, .f32⟩
  | .hbm, ⟨28, _⟩ => ⟨S1x8x8x128, .f32⟩
  | .hbm, ⟨29, _⟩ => ⟨S8x8x128, .f32⟩
  | .hbm, ⟨30, _⟩ => ⟨S4x2048x1, .f32⟩
  | .hbm, ⟨31, _⟩ => ⟨S1x8x8x128, .f32⟩
  | .hbm, ⟨32, _⟩ => ⟨S8x8x128, .f32⟩
  | .hbm, ⟨33, _⟩ => ⟨S4x2048x1, .f32⟩
  | .hbm, ⟨34, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S2x1x8x128, .f32⟩
  | .local _ .vmem, ⟨9, _⟩ => ⟨S2x1x8x128, .f32⟩
  | .local _ .vmem, ⟨10, _⟩ => ⟨S1x1, .f32⟩
  | .local _ .vmem, ⟨11, _⟩ => ⟨S258x2048, .f32⟩
  | .local _ .vmem, ⟨12, _⟩ => ⟨S256x1024, .bf16⟩
  | .local _ .vmem, ⟨13, _⟩ => ⟨S256x1024, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S3x256x4, .f32⟩
  | .local _ .vmem, ⟨18, _⟩ => ⟨S4x256x32, .f32⟩
  | .local _ .vmem, ⟨19, _⟩ => ⟨S4x32, .f32⟩
  | .local _ .vmem, ⟨20, _⟩ => ⟨S256x132, .bf16⟩
  | .local _ .vmem, ⟨21, _⟩ => ⟨S1x132, .f32⟩
  | .local _ .vmem, ⟨22, _⟩ => ⟨S4x128, .bf16⟩
  | .local _ .vmem, ⟨23, _⟩ => ⟨S128x256, .f32⟩
  | .local _ .vmem, ⟨24, _⟩ => ⟨S4x256, .f32⟩
  | .local _ .vmem, ⟨25, _⟩ => ⟨S6x1024, .f32⟩
  | .local _ .vmem, ⟨26, _⟩ => ⟨S1x4, .f32⟩
  | .local _ .vmem, ⟨27, _⟩ => ⟨S1x4, .f32⟩
  | .local _ .smem, ⟨0, _⟩ => ⟨S1x1, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_scratch10 : Ref sig .tc := ⟨.vmem, 21, rfl⟩
abbrev cc0_scratch11 : Ref sig .tc := ⟨.vmem, 22, rfl⟩
abbrev cc0_scratch12 : Ref sig .tc := ⟨.vmem, 23, rfl⟩
abbrev cc0_scratch13 : Ref sig .tc := ⟨.vmem, 24, rfl⟩
abbrev cc0_scratch14 : Ref sig .tc := ⟨.vmem, 25, rfl⟩
abbrev cc0_scratch16 : Ref sig .tc := ⟨.vmem, 26, rfl⟩
abbrev cc0_scratch17 : Ref sig .tc := ⟨.vmem, 27, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_1 : BitVec 32 := 0#32
  let v3 : BitVec 1 := Scalar.cmpi .ne v2 c0_i32_1
  v3

def k0_off1 (v0 : BitVec 32) : Fin 3 → Nat :=
  let v269 : Index := Scalar.indexCast v0
  let c0_130 : Index := 0#32
  let c0_131 : Index := 0#32
  ![v269.toNat, 0, 0]

def k0_off2 (v0 : BitVec 32) : Fin 2 → Nat :=
  let c2_i32 : BitVec 32 := 2#32
  let v151 : BitVec 32 := Scalar.muli c2_i32 v0
  let v152 : Index := Scalar.indexCast v151
  let c0_61 : Index := 0#32
  ![v152.toNat, 0]
def k0_off3 (v0 : BitVec 32) : Fin 2 → Nat :=
  let c2_i32_64 : BitVec 32 := 2#32
  let v159 : BitVec 32 := Scalar.muli c2_i32_64 v0
  let c1_i32 : BitVec 32 := 1#32
  let v160 : BitVec 32 := Scalar.addi v159 c1_i32
  let v161 : Index := Scalar.indexCast v160
  let c0_65 : Index := 0#32
  ![v161.toNat, 0]

def k0_chk1 (i : grid0.Coords) (v0 : BitVec 32) : Prop :=
  (∀ (k0_h1 : k0_cond1 i = 1#1), ∀ a, (k0_off1 v0) a + S1x256x4.size a ≤ S3x256x4.size a) ∧
  (∀ a, (k0_off2 v0) a + S1x1024.size a ≤ S6x1024.size a) ∧
  (∀ a, (k0_off3 v0) a + S1x1024.size a ≤ S6x1024.size a)
theorem k0_off1_inb : ∀ (i : grid0.Coords) (v0 : BitVec 32) (k0_hw1 : k0_chk1 i v0), ∀ (k0_h1 : k0_cond1 i = 1#1), ∀ a, (k0_off1 v0) a + S1x256x4.size a ≤ S3x256x4.size a := fun i v0 k0_hw1 k0_h1 => k0_hw1.1 k0_h1
theorem k0_off2_inb : ∀ (i : grid0.Coords) (v0 : BitVec 32) (k0_hw1 : k0_chk1 i v0), ∀ a, (k0_off2 v0) a + S1x1024.size a ≤ S6x1024.size a := fun i v0 k0_hw1 => k0_hw1.2.1
theorem k0_off3_inb : ∀ (i : grid0.Coords) (v0 : BitVec 32) (k0_hw1 : k0_chk1 i v0), ∀ a, (k0_off3 v0) a + S1x1024.size a ≤ S6x1024.size a := fun i v0 k0_hw1 => k0_hw1.2.2

def k0_cond4 (i : grid0.Coords) : BitVec 1 :=
  let arg0 : BitVec 32 := BitVec.ofNat 32 (i 0).val
  let c7_i32 : BitVec 32 := 7#32
  let v184 : BitVec 1 := Scalar.cmpi .eq arg0 c7_i32
  let v185 : BitVec 32 := Scalar.extui v184
  let c0_i32_82 : BitVec 32 := 0#32
  let v186 : BitVec 1 := Scalar.cmpi .ne v185 c0_i32_82
  v186

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "third" => some ((1 / 3 : ℝ) : EReal)
  | _ => none
-- ==== ReferenceIdeal.lean ====
abbrev S4x2048x1024 : Shape := ⟨3, ![4, 2048, 1024]⟩
abbrev S2048 : Shape := ⟨1, ![2048]⟩
abbrev S256x2048 : Shape := ⟨2, ![256, 2048]⟩
abbrev S256 : Shape := ⟨1, ![256]⟩
abbrev S3x256x4 : Shape := ⟨3, ![3, 256, 4]⟩
abbrev S4x256x32 : Shape := ⟨3, ![4, 256, 32]⟩
abbrev S4x32 : Shape := ⟨2, ![4, 32]⟩
abbrev S4x32x256 : Shape := ⟨3, ![4, 32, 256]⟩
abbrev S4x256 : Shape := ⟨2, ![4, 256]⟩
abbrev S6x1024 : Shape := ⟨2, ![6, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩
abbrev S1x1x2048 : Shape := ⟨3, ![1, 1, 2048]⟩
abbrev S2048x256 : Shape := ⟨2, ![2048, 256]⟩
abbrev S4x2048x256 : Shape := ⟨3, ![4, 2048, 256]⟩
abbrev S1x1x256 : Shape := ⟨3, ![1, 1, 256]⟩
abbrev S8192x256 : Shape := ⟨2, ![8192, 256]⟩
abbrev S1x256x4 : Shape := ⟨3, ![1, 256, 4]⟩
abbrev S256x4 : Shape := ⟨2, ![256, 4]⟩
abbrev S8192x4 : Shape := ⟨2, ![8192, 4]⟩
abbrev S8192x2 : Shape := ⟨2, ![8192, 2]⟩
abbrev S8192 : Shape := ⟨1, ![8192]⟩
abbrev S8192x1 : Shape := ⟨2, ![8192, 1]⟩
abbrev S8192x2x1 : Shape := ⟨3, ![8192, 2, 1]⟩
abbrev S8192x2x2 : Shape := ⟨3, ![8192, 2, 2]⟩
abbrev S4 : Shape := ⟨1, ![4]⟩
abbrev S1 : Shape := ⟨1, ![1]⟩
abbrev S8192x4x32 : Shape := ⟨3, ![8192, 4, 32]⟩
abbrev S1x4x32 : Shape := ⟨3, ![1, 4, 32]⟩
abbrev S4x256x8192 : Shape := ⟨3, ![4, 256, 8192]⟩
abbrev S8192x4x256 : Shape := ⟨3, ![8192, 4, 256]⟩
abbrev S1x4x256 : Shape := ⟨3, ![1, 4, 256]⟩
abbrev S8192x4x1 : Shape := ⟨3, ![8192, 4, 1]⟩
abbrev S4x2048x128 : Shape := ⟨3, ![4, 2048, 128]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 305
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S2048, .f32⟩
  | 3 => ⟨S2048, .f32⟩
  | 4 => ⟨S256x2048, .f32⟩
  | 5 => ⟨S256, .f32⟩
  | 6 => ⟨S256, .f32⟩
  | 7 => ⟨S3x256x4, .f32⟩
  | 8 => ⟨S4x256x32, .f32⟩
  | 9 => ⟨S4x32, .f32⟩
  | 10 => ⟨S4x32x256, .f32⟩
  | 11 => ⟨S4x256, .f32⟩
  | 12 => ⟨S6x1024, .f32⟩
  | 13 => ⟨S_, .i32⟩
  | 14 => ⟨S4x2048x2048, .f32⟩
  | 15 => ⟨S_, .f32⟩
  | 16 => ⟨S4x2048, .f32⟩
  | 17 => ⟨S4x2048x1, .f32⟩
  | 18 => ⟨S_, .f32⟩
  | 19 => ⟨S4x2048x1, .f32⟩
  | 20 => ⟨S4x2048x1, .f32⟩
  | 21 => ⟨S4x2048x2048, .f32⟩
  | 22 => ⟨S4x2048x2048, .f32⟩
  | 23 => ⟨S4x2048x2048, .f32⟩
  | 24 => ⟨S_, .f32⟩
  | 25 => ⟨S4x2048, .f32⟩
  | 26 => ⟨S4x2048x1, .f32⟩
  | 27 => ⟨S_, .f32⟩
  | 28 => ⟨S4x2048x1, .f32⟩
  | 29 => ⟨S4x2048x1, .f32⟩
  | 30 => ⟨S4x2048x2048, .f32⟩
  | 31 => ⟨S4x2048x2048, .f32⟩
  | 32 => ⟨S_, .f32⟩
  | 33 => ⟨S4x2048x1, .f32⟩
  | 34 => ⟨S4x2048x1, .f32⟩
  | 35 => ⟨S4x2048x1, .f32⟩
  | 36 => ⟨S4x2048x2048, .f32⟩
  | 37 => ⟨S4x2048x2048, .f32⟩
  | 38 => ⟨S1x1x2048, .f32⟩
  | 39 => ⟨S4x2048x2048, .f32⟩
  | 40 => ⟨S4x2048x2048, .f32⟩
  | 41 => ⟨S1x1x2048, .f32⟩
  | 42 => ⟨S4x2048x2048, .f32⟩
  | 43 => ⟨S4x2048x2048, .f32⟩
  | 44 => ⟨S2048x256, .f32⟩
  | 45 => ⟨S4x2048x256, .f32⟩
  | 46 => ⟨S_, .f32⟩
  | 47 => ⟨S4x2048, .f32⟩
  | 48 => ⟨S4x2048x1, .f32⟩
  | 49 => ⟨S_, .f32⟩
  | 50 => ⟨S4x2048x1, .f32⟩
  | 51 => ⟨S4x2048x1, .f32⟩
  | 52 => ⟨S4x2048x256, .f32⟩
  | 53 => ⟨S4x2048x256, .f32⟩
  | 54 => ⟨S4x2048x256, .f32⟩
  | 55 => ⟨S_, .f32⟩
  | 56 => ⟨S4x2048, .f32⟩
  | 57 => ⟨S4x2048x1, .f32⟩
  | 58 => ⟨S_, .f32⟩
  | 59 => ⟨S4x2048x1, .f32⟩
  | 60 => ⟨S4x2048x1, .f32⟩
  | 61 => ⟨S4x2048x256, .f32⟩
  | 62 => ⟨S4x2048x256, .f32⟩
  | 63 => ⟨S_, .f32⟩
  | 64 => ⟨S4x2048x1, .f32⟩
  | 65 => ⟨S4x2048x1, .f32⟩
  | 66 => ⟨S4x2048x1, .f32⟩
  | 67 => ⟨S4x2048x256, .f32⟩
  | 68 => ⟨S4x2048x256, .f32⟩
  | 69 => ⟨S1x1x256, .f32⟩
  | 70 => ⟨S4x2048x256, .f32⟩
  | 71 => ⟨S4x2048x256, .f32⟩
  | 72 => ⟨S1x1x256, .f32⟩
  | 73 => ⟨S4x2048x256, .f32⟩
  | 74 => ⟨S4x2048x256, .f32⟩
  | 75 => ⟨S8192x256, .f32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S1x256x4, .f32⟩
  | 98 => ⟨S256x4, .f32⟩
  | 99 => ⟨S8192x4, .f32⟩
  | 100 => ⟨S8192x2, .f32⟩
  | 101 => ⟨S8192x2, .i32⟩
  | 102 => ⟨S_, .f32⟩
  | 103 => ⟨S8192, .f32⟩
  | 104 => ⟨S_, .f32⟩
  | 105 => ⟨S8192, .f32⟩
  | 106 => ⟨S8192, .f32⟩
  | 107 => ⟨S8192x1, .f32⟩
  | 108 => ⟨S8192x2, .f32⟩
  | 109 => ⟨S8192x2, .f32⟩
  | 110 => ⟨S8192x2, .f32⟩
  | 111 => ⟨S_, .f32⟩
  | 112 => ⟨S8192, .f32⟩
  | 113 => ⟨S8192x1, .f32⟩
  | 114 => ⟨S8192x2, .f32⟩
  | 115 => ⟨S8192x2, .f32⟩
  | 116 => ⟨S_, .f32⟩
  | 117 => ⟨S8192x4, .f32⟩
  | 118 => ⟨S8192, .i32⟩
  | 119 => ⟨S8192x1, .i32⟩
  | 120 => ⟨S_, .i32⟩
  | 121 => ⟨S8192x1, .i32⟩
  | 122 => ⟨S8192x1, .i1⟩
  | 123 => ⟨S_, .i32⟩
  | 124 => ⟨S8192x1, .i32⟩
  | 125 => ⟨S8192x1, .i32⟩
  | 126 => ⟨S8192x1, .i32⟩
  | 127 => ⟨S_, .i32⟩
  | _ => ⟨S4x2048x1024, .f32⟩

abbrev hbmTy0_1 (i : Nat) : BufTy := match i % 128 with
  | 0 => ⟨S8192x2, .i32⟩
  | 1 => ⟨S8192x2, .i1⟩
  | 2 => ⟨S_, .i32⟩
  | 3 => ⟨S8192x2, .i32⟩
  | 4 => ⟨S8192x2, .i32⟩
  | 5 => ⟨S8192x2, .i32⟩
  | 6 => ⟨S8192x2, .i32⟩
  | 7 => ⟨S8192x2x1, .i32⟩
  | 8 => ⟨S8192x2x1, .i32⟩
  | 9 => ⟨S8192x2x2, .i32⟩
  | 10 => ⟨S8192x4, .f32⟩
  | 11 => ⟨S_, .f32⟩
  | 12 => ⟨S4, .f32⟩
  | 13 => ⟨S_, .f32⟩
  | 14 => ⟨S8192x4, .f32⟩
  | 15 => ⟨S8192x4, .i1⟩
  | 16 => ⟨S8192x4, .i32⟩
  | 17 => ⟨S_, .i32⟩
  | 18 => ⟨S4, .i32⟩
  | 19 => ⟨S4, .f32⟩
  | 20 => ⟨S_, .i32⟩
  | 21 => ⟨S_, .f32⟩
  | 22 => ⟨S_, .f32⟩
  | 23 => ⟨S1, .f32⟩
  | 24 => ⟨S_, .f32⟩
  | 25 => ⟨S1, .f32⟩
  | 26 => ⟨S1, .f32⟩
  | 27 => ⟨S4, .f32⟩
  | 28 => ⟨S4, .f32⟩
  | 29 => ⟨S4, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .i1⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .i32⟩
  | 50 => ⟨S_, .f32⟩
  | 51 => ⟨S_, .f32⟩
  | 52 => ⟨S1, .f32⟩
  | 53 => ⟨S_, .f32⟩
  | 54 => ⟨S1, .f32⟩
  | 55 => ⟨S1, .f32⟩
  | 56 => ⟨S4, .f32⟩
  | 57 => ⟨S4, .f32⟩
  | 58 => ⟨S4, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .i1⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S8192x4x32, .f32⟩
  | 82 => ⟨S1x4x32, .f32⟩
  | 83 => ⟨S8192x4x32, .f32⟩
  | 84 => ⟨S8192x4x32, .f32⟩
  | 85 => ⟨S_, .f32⟩
  | 86 => ⟨S8192x4x32, .f32⟩
  | 87 => ⟨S8192x4x32, .f32⟩
  | 88 => ⟨S4x256x8192, .f32⟩
  | 89 => ⟨S8192x4x256, .f32⟩
  | 90 => ⟨S1x4x256, .f32⟩
  | 91 => ⟨S8192x4x256, .f32⟩
  | 92 => ⟨S8192x4x256, .f32⟩
  | 93 => ⟨S8192x4x1, .f32⟩
  | 94 => ⟨S8192x4x256, .f32⟩
  | 95 => ⟨S8192x4x256, .f32⟩
  | 96 => ⟨S_, .f32⟩
  | 97 => ⟨S8192x256, .f32⟩
  | 98 => ⟨S4x2048x256, .f32⟩
  | 99 => ⟨S4x2048x128, .f32⟩
  | 100 => ⟨S4x2048x128, .f32⟩
  | 101 => ⟨S_, .f32⟩
  | 102 => ⟨S4x2048, .f32⟩
  | 103 => ⟨S4x2048x1, .f32⟩
  | 104 => ⟨S_, .f32⟩
  | 105 => ⟨S4x2048x1, .f32⟩
  | 106 => ⟨S4x2048x1, .f32⟩
  | 107 => ⟨S4x2048x1, .f32⟩
  | 108 => ⟨S4x2048x1, .f32⟩
  | 109 => ⟨S_, .f32⟩
  | 110 => ⟨S4x2048x1, .f32⟩
  | 111 => ⟨S4x2048x1, .f32⟩
  | 112 => ⟨S_, .f32⟩
  | 113 => ⟨S4x2048x1, .f32⟩
  | 114 => ⟨S4x2048x1, .f32⟩
  | 115 => ⟨S_, .f32⟩
  | 116 => ⟨S4x2048, .f32⟩
  | 117 => ⟨S4x2048x1, .f32⟩
  | 118 => ⟨S_, .f32⟩
  | 119 => ⟨S4x2048x1, .f32⟩
  | 120 => ⟨S4x2048x1, .f32⟩
  | 121 => ⟨S4x2048x1, .f32⟩
  | 122 => ⟨S4x2048x1, .f32⟩
  | 123 => ⟨S_, .f32⟩
  | 124 => ⟨S4x2048x1, .f32⟩
  | 125 => ⟨S4x2048x1, .f32⟩
  | 126 => ⟨S_, .f32⟩
  | 127 => ⟨S4x2048x1, .f32⟩
  | _ => ⟨S4x2048x1024, .f32⟩

abbrev hbmTy0_2 (i : Nat) : BufTy := match i % 128 with
  | 0 => ⟨S4x2048x1, .f32⟩
  | 1 => ⟨S4x2048x1024, .f32⟩
  | 2 => ⟨S4x2048x1024, .f32⟩
  | 3 => ⟨S_, .i32⟩
  | 4 => ⟨S_, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S1x1024, .f32⟩
  | 21 => ⟨S1024, .f32⟩
  | 22 => ⟨S1x1x1024, .f32⟩
  | 23 => ⟨S4x2048x1024, .f32⟩
  | 24 => ⟨S4x2048x1024, .f32⟩
  | 25 => ⟨S4x2048x1024, .f32⟩
  | 26 => ⟨S4x2048x1024, .f32⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S1x1024, .f32⟩
  | 45 => ⟨S1024, .f32⟩
  | 46 => ⟨S1x1x1024, .f32⟩
  | 47 => ⟨S4x2048x1024, .f32⟩
  | 48 => ⟨S4x2048x1024, .f32⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_c_11 : Ref sig .tc := ⟨.hbm, 82, rfl⟩
abbrev main_v55 : Ref sig .tc := ⟨.hbm, 83, rfl⟩
abbrev main_c_12 : Ref sig .tc := ⟨.hbm, 84, rfl⟩
abbrev main_c_13 : Ref sig .tc := ⟨.hbm, 85, rfl⟩
abbrev main_v56 : Ref sig .tc := ⟨.hbm, 86, rfl⟩
abbrev main_c_14 : Ref sig .tc := ⟨.hbm, 87, rfl⟩
abbrev main_v57 : Ref sig .tc := ⟨.hbm, 88, rfl⟩
abbrev main_c_15 : Ref sig .tc := ⟨.hbm, 89, rfl⟩
abbrev main_c_16 : Ref sig .tc := ⟨.hbm, 90, rfl⟩
abbrev main_v58 : Ref sig .tc := ⟨.hbm, 91, rfl⟩
abbrev main_c_17 : Ref sig .tc := ⟨.hbm, 92, rfl⟩
abbrev main_c_18 : Ref sig .tc := ⟨.hbm, 93, rfl⟩
abbrev main_v59 : Ref sig .tc := ⟨.hbm, 94, rfl⟩
abbrev main_c_19 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_values : Ref sig .tc := ⟨.hbm, 100, rfl⟩
abbrev main_indices : Ref sig .tc := ⟨.hbm, 101, rfl⟩
abbrev main_cst_20 : Ref sig .tc := ⟨.hbm, 102, rfl⟩
abbrev main_v64 : Ref sig .tc := ⟨.hbm, 103, rfl⟩
abbrev main_cst_21 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_22 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_23 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_c_24 : Ref sig .tc := ⟨.hbm, 120, rfl⟩
abbrev main_v78 : Ref sig .tc := ⟨.hbm, 121, rfl⟩
abbrev main_v79 : Ref sig .tc := ⟨.hbm, 122, rfl⟩
abbrev main_c_25 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_c_26 : Ref sig .tc := ⟨.hbm, 127, rfl⟩
abbrev main_v83 : Ref sig .tc := ⟨.hbm, 128, rfl⟩
abbrev main_v84 : Ref sig .tc := ⟨.hbm, 129, rfl⟩
abbrev main_c_27 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_28 : Ref sig .tc := ⟨.hbm, 139, rfl⟩
abbrev main_v93 : Ref sig .tc := ⟨.hbm, 140, rfl⟩
abbrev main_cst_29 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_c_30 : Ref sig .tc := ⟨.hbm, 145, rfl⟩
abbrev main_v97 : Ref sig .tc := ⟨.hbm, 146, rfl⟩
abbrev main_v98 : Ref sig .tc := ⟨.hbm, 147, rfl⟩
abbrev main_c_31 : Ref sig .tc := ⟨.hbm, 148, rfl⟩
abbrev main_call0_cst : Ref sig .tc := ⟨.hbm, 149, rfl⟩
abbrev main_call0_v0 : Ref sig .tc := ⟨.hbm, 150, rfl⟩
abbrev main_call0_v1 : Ref sig .tc := ⟨.hbm, 151, rfl⟩
abbrev main_call0_cst_0 : Ref sig .tc := ⟨.hbm, 152, rfl⟩
abbrev main_call0_v2 : Ref sig .tc := ⟨.hbm, 153, rfl⟩
abbrev main_call0_v3 : Ref sig .tc := ⟨.hbm, 154, rfl⟩
abbrev main_call0_v4 : Ref sig .tc := ⟨.hbm, 155, rfl⟩
abbrev main_call0_v5 : Ref sig .tc := ⟨.hbm, 156, rfl⟩
abbrev main_call0_v6 : Ref sig .tc := ⟨.hbm, 157, rfl⟩
abbrev main_call0_v7 : Ref sig .tc := ⟨.hbm, 158, rfl⟩
abbrev main_call0_cst_1 : Ref sig .tc := ⟨.hbm, 159, rfl⟩
abbrev main_call0_v8 : Ref sig .tc := ⟨.hbm, 160, rfl⟩
abbrev main_call0_cst_2 : Ref sig .tc := ⟨.hbm, 161, rfl⟩
abbrev main_call0_v9 : Ref sig .tc := ⟨.hbm, 162, rfl⟩
abbrev main_call0_v10 : Ref sig .tc := ⟨.hbm, 163, rfl⟩
abbrev main_call0_cst_3 : Ref sig .tc := ⟨.hbm, 164, rfl⟩
abbrev main_call0_v11 : Ref sig .tc := ⟨.hbm, 165, rfl⟩
abbrev main_call0_cst_4 : Ref sig .tc := ⟨.hbm, 166, rfl⟩
abbrev main_call0_call0_v0 : Ref sig .tc := ⟨.hbm, 167, rfl⟩
abbrev main_v99 : Ref sig .tc := ⟨.hbm, 168, rfl⟩
abbrev main_cst_32 : Ref sig .tc := ⟨.hbm, 169, rfl⟩
abbrev main_v100 : Ref sig .tc := ⟨.hbm, 170, rfl⟩
abbrev main_cst_33 : Ref sig .tc := ⟨.hbm, 171, rfl⟩
abbrev main_v101 : Ref sig .tc := ⟨.hbm, 172, rfl⟩
abbrev main_v102 : Ref sig .tc := ⟨.hbm, 173, rfl⟩
abbrev main_cst_34 : Ref sig .tc := ⟨.hbm, 174, rfl⟩
abbrev main_v103 : Ref sig .tc := ⟨.hbm, 175, rfl⟩
abbrev main_v104 : Ref sig .tc := ⟨.hbm, 176, rfl⟩
abbrev main_c_35 : Ref sig .tc := ⟨.hbm, 177, rfl⟩
abbrev main_call1_cst : Ref sig .tc := ⟨.hbm, 178, rfl⟩
abbrev main_call1_v0 : Ref sig .tc := ⟨.hbm, 179, rfl⟩
abbrev main_call1_v1 : Ref sig .tc := ⟨.hbm, 180, rfl⟩
abbrev main_call1_cst_0 : Ref sig .tc := ⟨.hbm, 181, rfl⟩
abbrev main_call1_v2 : Ref sig .tc := ⟨.hbm, 182, rfl⟩
abbrev main_call1_v3 : Ref sig .tc := ⟨.hbm, 183, rfl⟩
abbrev main_call1_v4 : Ref sig .tc := ⟨.hbm, 184, rfl⟩
abbrev main_call1_v5 : Ref sig .tc := ⟨.hbm, 185, rfl⟩
abbrev main_call1_v6 : Ref sig .tc := ⟨.hbm, 186, rfl⟩
abbrev main_call1_v7 : Ref sig .tc := ⟨.hbm, 187, rfl⟩
abbrev main_call1_cst_1 : Ref sig .tc := ⟨.hbm, 188, rfl⟩
abbrev main_call1_v8 : Ref sig .tc := ⟨.hbm, 189, rfl⟩
abbrev main_call1_cst_2 : Ref sig .tc := ⟨.hbm, 190, rfl⟩
abbrev main_call1_v9 : Ref sig .tc := ⟨.hbm, 191, rfl⟩
abbrev main_call1_v10 : Ref sig .tc := ⟨.hbm, 192, rfl⟩
abbrev main_call1_cst_3 : Ref sig .tc := ⟨.hbm, 193, rfl⟩
abbrev main_call1_v11 : Ref sig .tc := ⟨.hbm, 194, rfl⟩
abbrev main_call1_cst_4 : Ref sig .tc := ⟨.hbm, 195, rfl⟩
abbrev main_call1_call0_v0 : Ref sig .tc := ⟨.hbm, 196, rfl⟩
abbrev main_v105 : Ref sig .tc := ⟨.hbm, 197, rfl⟩
abbrev main_cst_36 : Ref sig .tc := ⟨.hbm, 198, rfl⟩
abbrev main_v106 : Ref sig .tc := ⟨.hbm, 199, rfl⟩
abbrev main_cst_37 : Ref sig .tc := ⟨.hbm, 200, rfl⟩
abbrev main_v107 : Ref sig .tc := ⟨.hbm, 201, rfl⟩
abbrev main_v108 : Ref sig .tc := ⟨.hbm, 202, rfl⟩
abbrev main_cst_38 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_cst_39 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_call2_cst : Ref sig .tc := ⟨.hbm, 213, rfl⟩
abbrev main_call2_v0 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_cst_40 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_cst_41 : Ref sig .tc := ⟨.hbm, 229, rfl⟩
abbrev main_v130 : Ref sig .tc := ⟨.hbm, 230, rfl⟩
abbrev main_v131 : Ref sig .tc := ⟨.hbm, 231, rfl⟩
abbrev main_cst_42 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_cst_43 : Ref sig .tc := ⟨.hbm, 237, rfl⟩
abbrev main_v136 : Ref sig .tc := ⟨.hbm, 238, rfl⟩
abbrev main_v137 : Ref sig .tc := ⟨.hbm, 239, rfl⟩
abbrev main_cst_44 : Ref sig .tc := ⟨.hbm, 240, rfl⟩
abbrev main_v138 : Ref sig .tc := ⟨.hbm, 241, rfl⟩
abbrev main_v139 : Ref sig .tc := ⟨.hbm, 242, rfl⟩
abbrev main_cst_45 : Ref sig .tc := ⟨.hbm, 243, rfl⟩
abbrev main_v140 : Ref sig .tc := ⟨.hbm, 244, rfl⟩
abbrev main_v141 : Ref sig .tc := ⟨.hbm, 245, rfl⟩
abbrev main_cst_46 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_cst_47 : Ref sig .tc := ⟨.hbm, 251, rfl⟩
abbrev main_v146 : Ref sig .tc := ⟨.hbm, 252, rfl⟩
abbrev main_v147 : Ref sig .tc := ⟨.hbm, 253, rfl⟩
abbrev main_cst_48 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_c_49 : Ref sig .tc := ⟨.hbm, 259, rfl⟩
abbrev main_v152 : Ref sig .tc := ⟨.hbm, 260, rfl⟩
abbrev main_c_50 : Ref sig .tc := ⟨.hbm, 261, rfl⟩
abbrev main_v153 : Ref sig .tc := ⟨.hbm, 262, rfl⟩
abbrev main_c_51 : Ref sig .tc := ⟨.hbm, 263, rfl⟩
abbrev main_v154 : Ref sig .tc := ⟨.hbm, 264, rfl⟩
abbrev main_c_52 : Ref sig .tc := ⟨.hbm, 265, rfl⟩
abbrev main_v155 : Ref sig .tc := ⟨.hbm, 266, rfl⟩
abbrev main_v156 : Ref sig .tc := ⟨.hbm, 267, rfl⟩
abbrev main_c_53 : Ref sig .tc := ⟨.hbm, 268, rfl⟩
abbrev main_c_54 : Ref sig .tc := ⟨.hbm, 269, rfl⟩
abbrev main_v157 : Ref sig .tc := ⟨.hbm, 270, rfl⟩
abbrev main_c_55 : Ref sig .tc := ⟨.hbm, 271, rfl⟩
abbrev main_c_56 : Ref sig .tc := ⟨.hbm, 272, rfl⟩
abbrev main_v158 : Ref sig .tc := ⟨.hbm, 273, rfl⟩
abbrev main_c_57 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_v162 : Ref sig .tc := ⟨.hbm, 278, rfl⟩
abbrev main_v163 : Ref sig .tc := ⟨.hbm, 279, rfl⟩
abbrev main_v164 : Ref sig .tc := ⟨.hbm, 280, rfl⟩
abbrev main_v165 : Ref sig .tc := ⟨.hbm, 281, rfl⟩
abbrev main_v166 : Ref sig .tc := ⟨.hbm, 282, rfl⟩
abbrev main_c_58 : Ref sig .tc := ⟨.hbm, 283, rfl⟩
abbrev main_v167 : Ref sig .tc := ⟨.hbm, 284, rfl⟩
abbrev main_c_59 : Ref sig .tc := ⟨.hbm, 285, rfl⟩
abbrev main_v168 : Ref sig .tc := ⟨.hbm, 286, rfl⟩
abbrev main_c_60 : Ref sig .tc := ⟨.hbm, 287, rfl⟩
abbrev main_v169 : Ref sig .tc := ⟨.hbm, 288, rfl⟩
abbrev main_c_61 : Ref sig .tc := ⟨.hbm, 289, rfl⟩
abbrev main_v170 : Ref sig .tc := ⟨.hbm, 290, rfl⟩
abbrev main_v171 : Ref sig .tc := ⟨.hbm, 291, rfl⟩
abbrev main_c_62 : Ref sig .tc := ⟨.hbm, 292, rfl⟩
abbrev main_c_63 : Ref sig .tc := ⟨.hbm, 293, rfl⟩
abbrev main_v172 : Ref sig .tc := ⟨.hbm, 294, rfl⟩
abbrev main_c_64 : Ref sig .tc := ⟨.hbm, 295, rfl⟩
abbrev main_c_65 : Ref sig .tc := ⟨.hbm, 296, rfl⟩
abbrev main_v173 : Ref sig .tc := ⟨.hbm, 297, rfl⟩
abbrev main_c_66 : Ref sig .tc := ⟨.hbm, 298, rfl⟩
abbrev main_v174 : Ref sig .tc := ⟨.hbm, 299, rfl⟩
abbrev main_v175 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_v179 : Ref sig .tc := ⟨.hbm, 304, rfl⟩

abbrev nD : Nat := 1
abbrev τ : Topo := Topo.v7x

variable {F : FTy → Type} [FloatOps F]
-- ==== Proof.Ideal.Vals.lean ====
module

public import proofs.«01_k».proof.Proof.Gen.KernelIdeal.Frame.Runs
public import Idealize.ShloMosaic.Lib.HeldBySlice
public import Idealize.ShloMosaic.Lib.VecWindow
public import Idealize.ShloMosaic.Lib.ReshapeSlab
public import Idealize.ShloMosaic.Lib.Pipeline.ReadBack
public import Idealize.ShloMosaic.Lib.Pipeline.ValueKit

/-! What the kernel's body computes, as functions of the values it reads: the weights prepared at the first
    grid point, the outputs of one point, and the running sums carried from point to point. Also the three
    row windows of the scratch buffer that the first three copies fill. -/

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (Pipeline.UD sig nD τ) ℕ

/-- The operands that the kernel copies from HBM, as vectors. -/
structure Ops (F : FTy → Type) where
  wred : Vec F S256x2048 .f32
  g1 : Vec F S1x2048 .f32
  b1 : Vec F S1x2048 .f32
  g2 : Vec F S1x256 .f32
  b2 : Vec F S1x256 .f32
  wg : Vec F S3x256x4 .f32
  we1 : Vec F S4x256x32 .f32
  be1 : Vec F S4x32 .f32
  w2 : Vec F S128x256 .f32
  be2 : Vec F S4x256 .f32
  ms : Vec F S6x1024 .f32

/-- What the first grid point leaves in the carried scratch buffers. -/
structure Carry (F : FTy → Type) where
  wx : Vec F S256x1024 .bf16
  wt : Vec F S256x1024 .bf16
  c2 : Vec F S1x256 .f32
  g2 : Vec F S1x256 .f32
  b2 : Vec F S1x256 .f32
  w1 : Vec F S256x132 .bf16
  b1 : Vec F S1x132 .f32
  sel : Vec F S4x128 .bf16
  w2 : Vec F S128x256 .f32
  be2 : Vec F S4x256 .f32
  ms : Vec F S6x1024 .f32

/-- The task's gate weights: one slab of the three. -/
def gateSlab (wg : Vec F S3x256x4 .f32) (tk : BitVec 32)
    (h : ∀ a, (k0_off1 tk) a + S1x256x4.size a ≤ S3x256x4.size a) : Vec F S1x256x4 .f32 :=
  View.ld wg (Rect.unit (s := S3x256x4) (k0_off1 tk) S1x256x4.size h)

/-- The preparation at the first grid point. -/
def prep (o : Ops F) (tk : BitVec 32) (h : ∀ a, (k0_off1 tk) a + S1x256x4.size a ≤ S3x256x4.size a) : Carry F where
  wx := k0_pay12 (k0_pay11 o.wred o.g1)
  wt := k0_pay13 o.wred o.g1
  c2 := k0_pay14 o.wred o.b1
  g2 := o.g2
  b2 := o.b2
  w1 := k0_pay15
    (View.ld o.we1 (Rect.unit (s := S4x256x32) ![0, 0, 0] S1x256x32.size inb_S4x256x32_S1x256x32_0_0_0))
    (View.ld o.we1 (Rect.unit (s := S4x256x32) ![1, 0, 0] S1x256x32.size inb_S4x256x32_S1x256x32_1_0_0))
    (View.ld o.we1 (Rect.unit (s := S4x256x32) ![2, 0, 0] S1x256x32.size inb_S4x256x32_S1x256x32_2_0_0))
    (View.ld o.we1 (Rect.unit (s := S4x256x32) ![3, 0, 0] S1x256x32.size inb_S4x256x32_S1x256x32_3_0_0))
    (gateSlab o.wg tk h)
  b1 := k0_pay16
    (View.ld o.be1 (Rect.unit (s := S4x32) ![0, 0] S1x32.size inb_S4x32_S1x32_0_0))
    (View.ld o.be1 (Rect.unit (s := S4x32) ![1, 0] S1x32.size inb_S4x32_S1x32_1_0))
    (View.ld o.be1 (Rect.unit (s := S4x32) ![2, 0] S1x32.size inb_S4x32_S1x32_2_0))
    (View.ld o.be1 (Rect.unit (s := S4x32) ![3, 0] S1x32.size inb_S4x32_S1x32_3_0))
  sel := k0_pay18 k0_pay17
  w2 := o.w2
  be2 := o.be2
  ms := o.ms

/-- The first matmul's output before the bias. -/
def v75 (x t : Vec F S1024x1024 .f32) (k : Carry F) : FVec F S1024x132 .f32 :=
  k0_pay25 (k0_pay23 x t) (k0_pay24 x t) k.wx k.wt k.c2 k.g2 k.b2 k.w1

/-- The experts' hidden activations of one block of rows. -/
def hid (x t : Vec F S1024x1024 .f32) (k : Carry F) : FVec F S1024x128 .f32 := k0_pay28 (v75 x t k) (k0_pay26 k.b1)

/-- The gates of one block of rows. -/
def gts (x t : Vec F S1024x1024 .f32) (k : Carry F) : FVec F S1024x4 .f32 := k0_pay29 (v75 x t k) (k0_pay26 k.b1)

/-- The first output block: the gated `x`. -/
def outX (x t : Vec F S1024x1024 .f32) (k : Carry F) (tk : BitVec 32)
    (h : ∀ a, (k0_off2 tk) a + S1x1024.size a ≤ S6x1024.size a) : Vec F S1024x1024 .f32 :=
  k0_pay33 (k0_pay19 x) (hid x t k) (gts x t k) k.sel k.w2 k.be2
    (View.ld k.ms (Rect.unit (s := S6x1024) (k0_off2 tk) S1x1024.size h))

/-- The second output block: the gated `t`. -/
def outT (x t : Vec F S1024x1024 .f32) (k : Carry F) (tk : BitVec 32)
    (h : ∀ a, (k0_off3 tk) a + S1x1024.size a ≤ S6x1024.size a) : Vec F S1024x1024 .f32 :=
  k0_pay1 (k0_pay34 (k0_pay20 t) (hid x t k) (gts x t k) k.sel k.w2 k.be2)
    (k0_pay35 (View.ld k.ms (Rect.unit (s := S6x1024) (k0_off3 tk) S1x1024.size h)))

/-- The rows' first sigmoid gate. -/
def sigX (x t : Vec F S1024x1024 .f32) (k : Carry F) : FVec F S1024x1 .f32 := k0_pay31 (hid x t k) (gts x t k) k.sel k.w2 k.be2

/-- The rows' second sigmoid gate. -/
def sigT (x t : Vec F S1024x1024 .f32) (k : Carry F) : FVec F S1024x1 .f32 := k0_pay32 (hid x t k) (gts x t k) k.sel k.w2 k.be2

/-- The third output block: the two sigmoid gates of the rows, one slab each. -/
def outP (x t : Vec F S1024x1024 .f32) (k : Carry F) : Vec F S2x1x8x128 .f32 :=
  View.canon [⟨Rect.unit (s := S2x1x8x128) ![1, 0, 0, 0] S1x1x8x128.size inb_S2x1x8x128_S1x1x8x128_1_0_0_0, k0_pay3 (sigT x t k)⟩,
    ⟨Rect.unit (s := S2x1x8x128) ![0, 0, 0, 0] S1x1x8x128.size inb_S2x1x8x128_S1x1x8x128_0_0_0_0, k0_pay2 (sigX x t k)⟩]

omit [FloatOps F] [Named F] in
/-- The two slabs are the whole block. -/
theorem cover_P (p q : Vec F S1x1x8x128 .f32) :
    ∀ y, ∃ r ∈ ([⟨Rect.unit (s := S2x1x8x128) ![1, 0, 0, 0] S1x1x8x128.size inb_S2x1x8x128_S1x1x8x128_1_0_0_0, p⟩,
      ⟨Rect.unit (s := S2x1x8x128) ![0, 0, 0, 0] S1x1x8x128.size inb_S2x1x8x128_S1x1x8x128_0_0_0_0, q⟩] :
        List (View.Piece (Elt F) S2x1x8x128 .f32)), y ∈ r.1.set :=
  View.cover_of_tiledL _ S1x1x8x128.size (by sl_kernel_rfl)

/-- The rows that the copy of the weights fills. -/
abbrev rA : Rect S258x2048 := Rect.unit (s := S258x2048) ![0, 0] S256x2048.size inb_S258x2048_S256x2048_0_0
/-- The row that the copy of the scale fills. -/
abbrev rB : Rect S258x2048 := Rect.unit (s := S258x2048) ![256, 0] S1x2048.size inb_S258x2048_S1x2048_256_0
/-- The row that the copy of the shift fills. -/
abbrev rC : Rect S258x2048 := Rect.unit (s := S258x2048) ![257, 0] S1x2048.size inb_S258x2048_S1x2048_257_0

omit [FloatOps F] [Named F] in
/-- A buffer held at some contents is held at what it reads. -/
theorem any_owns (c : Thread nD τ) {sp : Space} {s : Shape} {e : EltTy} (m : Memref sig c.2.kind sp s e) (f : Buf (Elt F) (m.view.loc c)) :
    (m.view.loc c ↦[m.view.set]{fullShare} f : sProp 𝕄)
      ⊢ iprop(∃ d, ∃ f, ⌜m.view.read (Elt F) f = d⌝ ∗ (m.view.loc c ↦[m.view.set]{fullShare} f)) := by
  iintro H
  iexists (m.view.read (Elt F) f)
  iexists f
  isplitr; · ipureintro; rfl
  iexact H

section Reads

variable {sig' : RefSig} {κ : Kind} {sp : Space} {s : Shape} {e : EltTy} {Val : EltTy → Type}

/-- What a view reads after a write over the whole of it. -/
theorem read_whole (v : View sig' κ sp s e) (f : v.ty.Contents Val) (w : (Rect.whole s).shape.Idx → Val e) :
    v.read Val (v.writes Val f [⟨Rect.whole s, w⟩]) = w := by
  funext x
  have h := View.read_writes_cons_emb v f (Rect.whole s) w [] x
  rwa [Rect.emb_whole_apply] at h

/-- A load through a rectangle after a write over the whole. -/
theorem cov_whole [∀ e, Nonempty (Val e)] (v : View sig' κ sp s e) (w : (Rect.whole s).shape.Idx → Val e) (r : Rect s) :
    v.readCov [⟨Rect.whole s, w⟩] r.toLoadRect = View.ld w r := by
  show View.ld (v.read Val (v.writes Val v.junk [⟨Rect.whole s, w⟩])) r = _
  rw [read_whole]

/-- The same, over named prior contents. -/
theorem load_whole (v : View sig' κ sp s e) (f : v.ty.Contents Val) (w : (Rect.whole s).shape.Idx → Val e) (r : Rect s) :
    v.readAt Val r.toLoadRect (v.writes Val f [⟨Rect.whole s, w⟩]) = View.ld w r := by
  show View.ld (v.read Val (v.writes Val f [⟨Rect.whole s, w⟩])) r = _
  rw [read_whole]

/-- A load of a window that a write over the whole window has filled. -/
theorem load_window (m : Memref sig' κ sp s e) (r : Rect s) (hr : ∀ a, r.stride a = 1) (f : m.view.ty.Contents Val)
    (w : (Rect.whole r.shape).shape.Idx → Val e) :
    m.view.readAt Val r.toLoadRect ((m.slice r hr).view.writes Val f [⟨Rect.whole r.shape, w⟩]) = w :=
  read_whole (m.slice r hr).view f w

end Reads

/-- A held buffer set aside. -/
irreducible_def aside (P : sProp 𝕄) : sProp 𝕄 := P

omit [FloatOps F] [Named F] in
/-- Sets a buffer aside. -/
theorem aside_intro (P : sProp 𝕄) : P ⊢ aside P := by rw [aside]

omit [FloatOps F] [Named F] in
/-- Takes a buffer back. -/
theorem aside_elim (P : sProp 𝕄) : aside P ⊢ P := by rw [aside]

omit [FloatOps F] [Named F] in
/-- A whole buffer that reads `x` is held at the contents that `x` determines. -/
theorem to_unread (c : Thread nD τ) {sp : Space} {s : Shape} {e : EltTy} (m : Memref sig c.2.kind sp s e) (h : m.IsWhole)
    (x : s.Idx → Elt F e) :
    iprop(∃ f, ⌜m.view.read (Elt F) f = x⌝ ∗ (m.view.loc c ↦[m.view.set]{fullShare} f))
      ⊢ (m.view.loc c ↦[m.view.set]{fullShare} h.unread x : sProp 𝕄) := by
  iintro ⟨%f, %hf, H⟩
  obtain rfl := h.eq_unread hf
  iexact H

section Windows

variable (c : Thread nD τ) (m : Memref sig c.2.kind .vmem S258x2048 .f32) (f : Buf (Elt F) (m.view.loc c))

omit [FloatOps F] [Named F] in
/-- The first two windows are disjoint. -/
theorem disj_AB : Disjoint (m.access rA).set (m.access rB).set :=
  View.disjoint_slice_of_sep m.view rA rB ⟨0, by decide⟩ rfl rfl (.inl (by decide))

omit [FloatOps F] [Named F] in
/-- The first and the third window are disjoint. -/
theorem disj_AC : Disjoint (m.access rA).set (m.access rC).set :=
  View.disjoint_slice_of_sep m.view rA rC ⟨0, by decide⟩ rfl rfl (.inl (by decide))

omit [FloatOps F] [Named F] in
/-- The last two windows are disjoint. -/
theorem disj_BC : Disjoint (m.access rB).set (m.access rC).set :=
  View.disjoint_slice_of_sep m.view rB rC ⟨0, by decide⟩ rfl rfl (.inl (by decide))

/-- The elements outside the three windows. -/
def restSet : Finset (Idx (m.view.loc c)) :=
  m.view.set \ ((m.access rC).set ∪ ((m.access rB).set ∪ ((m.access rA).set ∪ ∅)))

/-- The pieces, the last written first. -/
abbrev pieces (pA : rA.shape.Idx → Elt F .f32) (pB : rB.shape.Idx → Elt F .f32) (pC : rC.shape.Idx → Elt F .f32) :
    List (View.Piece (Elt F) S258x2048 .f32) := [⟨rC, pC⟩, ⟨rB, pB⟩, ⟨rA, pA⟩]

omit [FloatOps F] [Named F] in
/-- The three pieces are pairwise disjoint. -/
theorem pieces_disj (pA : rA.shape.Idx → Elt F .f32) (pB : rB.shape.Idx → Elt F .f32) (pC : rC.shape.Idx → Elt F .f32) :
    (pieces pA pB pC).Pairwise (fun p p' => Disjoint (m.access p.1).set (m.access p'.1).set) := by
  refine List.Pairwise.cons ?_ (List.Pairwise.cons ?_ (List.Pairwise.cons ?_ List.Pairwise.nil))
  · intro p hp
    rcases List.mem_cons.mp hp with rfl | hp
    · exact (disj_BC c m).symm
    · rcases List.mem_cons.mp hp with rfl | hp
      · exact (disj_AC c m).symm
      · exact absurd hp List.not_mem_nil
  · intro p hp
    rcases List.mem_cons.mp hp with rfl | hp
    · exact (disj_AB c m).symm
    · exact absurd hp List.not_mem_nil
  · intro p hp
    exact absurd hp List.not_mem_nil

omit [FloatOps F] [Named F] in
/-- The buffer held whole is its three windows held one by one, and the rest. -/
theorem split3 : (m.view.loc c ↦[m.view.set]{fullShare} f : sProp 𝕄) ⊢
    iprop(((m.slice rA (fun _ => rfl)).view.loc c ↦[(m.slice rA (fun _ => rfl)).view.set]{fullShare} f)
      ∗ ((m.slice rB (fun _ => rfl)).view.loc c ↦[(m.slice rB (fun _ => rfl)).view.set]{fullShare} f)
      ∗ ((m.slice rC (fun _ => rfl)).view.loc c ↦[(m.slice rC (fun _ => rfl)).view.set]{fullShare} f)
      ∗ (m.view.loc c ↦[restSet c m]{fullShare} f)) := by
  have hA := View.set_slice_subset m.view rA
  have hB := View.set_slice_subset m.view rB
  have hC := View.set_slice_subset m.view rC
  have hdA : Disjoint (m.access rB).set ((m.access rA).set ∪ (∅ : Finset (Idx (m.view.loc c)))) :=
    Finset.disjoint_union_right.mpr ⟨(disj_AB c m).symm, Finset.disjoint_empty_right _⟩
  have hdC : Disjoint (m.access rC).set ((m.access rB).set ∪ ((m.access rA).set ∪ (∅ : Finset (Idx (m.view.loc c))))) :=
    Finset.disjoint_union_right.mpr ⟨(disj_BC c m).symm,
      Finset.disjoint_union_right.mpr ⟨(disj_AC c m).symm, Finset.disjoint_empty_right _⟩⟩
  have hsub : (m.access rC).set ∪ ((m.access rB).set ∪ ((m.access rA).set ∪ (∅ : Finset (Idx (m.view.loc c))))) ⊆ m.view.set :=
    Finset.union_subset hC (Finset.union_subset hB (Finset.union_subset hA (Finset.empty_subset _)))
  iintro H
  ihave H1 := (pointsTo_split_subset hsub).1 $$ H
  icases H1 with ⟨HU, HR⟩
  ihave H2 := (pointsTo_union hdC).1 $$ HU
  icases H2 with ⟨HC, HU⟩
  ihave H3 := (pointsTo_union hdA).1 $$ HU
  icases H3 with ⟨HB, HU⟩
  ihave H4 := (pointsTo_union (Finset.disjoint_empty_right _)).1 $$ HU
  icases H4 with ⟨HA, HE⟩
  rw [pointsTo_empty]
  isplitl [HA]; · iexact HA
  isplitl [HB]; · iexact HB
  isplitl [HC]; · iexact HC
  iexact HR

omit [FloatOps F] [Named F] in
/-- A window held at some contents is held at the write of what the window reads there. -/
theorem window_write (r : Rect S258x2048) (hr : ∀ a, r.stride a = 1) (g : Buf (Elt F) (m.view.loc c)) :
    ((m.slice r hr).view.loc c ↦[(m.slice r hr).view.set]{fullShare} g : sProp 𝕄)
      = ((m.access r).loc c ↦[(m.access r).set]{fullShare}
          (m.access r).write (Elt F) f ((m.slice r hr).view.read (Elt F) g) Finset.univ) := by
  refine pointsTo_congr fun i hi => ?_
  obtain ⟨x, -, rfl⟩ := Finset.mem_map.mp hi
  have h := View.write_emb_of_mem (v := m.access r) f ((m.slice r hr).view.read (Elt F) g) (Finset.mem_univ x)
  refine Eq.trans ?_ h.symm
  rw [View.read_apply]
  exact (eq_of_heq ((cast_heq _ _).trans (cast_heq _ _))).symm

omit [FloatOps F] [Named F] in
/-- The three windows, at any contents, and the rest are the buffer whole with the three windows' contents written. -/
theorem join3 (gA gB gC : Buf (Elt F) (m.view.loc c)) :
    iprop(((m.slice rA (fun _ => rfl)).view.loc c ↦[(m.slice rA (fun _ => rfl)).view.set]{fullShare} gA)
      ∗ ((m.slice rB (fun _ => rfl)).view.loc c ↦[(m.slice rB (fun _ => rfl)).view.set]{fullShare} gB)
      ∗ ((m.slice rC (fun _ => rfl)).view.loc c ↦[(m.slice rC (fun _ => rfl)).view.set]{fullShare} gC)
      ∗ (m.view.loc c ↦[restSet c m]{fullShare} f))
    ⊢ (m.view.loc c ↦[m.view.set]{fullShare} m.view.writes (Elt F) f
        (pieces ((m.slice rA (fun _ => rfl)).view.read (Elt F) gA) ((m.slice rB (fun _ => rfl)).view.read (Elt F) gB)
          ((m.slice rC (fun _ => rfl)).view.read (Elt F) gC)) : sProp 𝕄) := by
  rw [window_write c m f rA, window_write c m f rB, window_write c m f rC]
  refine BIBase.Entails.trans ?_ (Memref.heldBySlice_join_rest c m fullShare (pieces _ _ _) (pieces_disj c m _ _ _) f)
  unfold Memref.heldBySlice Memref.heldBySlice Memref.heldBySlice Memref.heldBySlice
  iintro ⟨HA, HB, HC, HR⟩
  isplitl [HA HB HC]
  · isplitl [HC]; · iexists f; iexact HC
    isplitl [HB]; · iexists f; iexact HB
    isplitl [HA]; · iexists f; iexact HA
    itrivial
  · iexact HR

end Windows

end Cert.KernelIdeal.Hand

end
-- ==== Proof.Ideal.RunA.lean ====
module

public import proofs.«01_k».proof.Proof.Ideal.Vals

/-! The body's run in one case of its four conditionals. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (Pipeline.UD sig nD τ) ℕ

set_option maxHeartbeats 1600000 in
/-- THE FIRST POINT: the operands are copied, the weights prepared, the sums started. -/
theorem runA (c : Dev nD) (i : grid0.Coords)
    (arg1 : Memref sig .tc .vmem S1024x1024 .f32) (harg1 : arg1.IsWhole)
    (arg2 : Memref sig .tc .vmem S1024x1024 .f32) (harg2 : arg2.IsWhole)
    (arg14 : Memref sig .tc .smem S1x1 .i32) (harg14 : arg14.IsWhole)
    (arg15 : Memref sig .tc .vmem S1024x1024 .f32) (harg15 : arg15.IsWhole)
    (arg16 : Memref sig .tc .vmem S1024x1024 .f32) (harg16 : arg16.IsWhole)
    (arg17 : Memref sig .tc .vmem S2x1x8x128 .f32) (harg17 : arg17.IsWhole)
    (arg18 : Memref sig .tc .vmem S1x1 .f32) (harg18 : arg18.IsWhole)
    (arg19 : Memref sig .tc .vmem S258x2048 .f32) (harg19 : arg19.IsWhole)
    (arg20 : Memref sig .tc .vmem S256x1024 .bf16) (harg20 : arg20.IsWhole)
    (arg21 : Memref sig .tc .vmem S256x1024 .bf16) (harg21 : arg21.IsWhole)
    (arg22 : Memref sig .tc .vmem S1x256 .f32) (harg22 : arg22.IsWhole)
    (arg23 : Memref sig .tc .vmem S1x256 .f32) (harg23 : arg23.IsWhole)
    (arg24 : Memref sig .tc .vmem S1x256 .f32) (harg24 : arg24.IsWhole)
    (arg25 : Memref sig .tc .vmem S3x256x4 .f32) (harg25 : arg25.IsWhole)
    (arg26 : Memref sig .tc .vmem S4x256x32 .f32) (harg26 : arg26.IsWhole)
    (arg27 : Memref sig .tc .vmem S4x32 .f32) (harg27 : arg27.IsWhole)
    (arg28 : Memref sig .tc .vmem S256x132 .bf16) (harg28 : arg28.IsWhole)
    (arg29 : Memref sig .tc .vmem S1x132 .f32) (harg29 : arg29.IsWhole)
    (arg30 : Memref sig .tc .vmem S4x128 .bf16) (harg30 : arg30.IsWhole)
    (arg31 : Memref sig .tc .vmem S128x256 .f32) (harg31 : arg31.IsWhole)
    (arg32 : Memref sig .tc .vmem S4x256 .f32) (harg32 : arg32.IsWhole)
    (arg33 : Memref sig .tc .vmem S6x1024 .f32) (harg33 : arg33.IsWhole)
    (arg35 : Memref sig .tc .vmem S1x4 .f32) (harg35 : arg35.IsWhole)
    (arg36 : Memref sig .tc .vmem S1x4 .f32) (harg36 : arg36.IsWhole)
    (hc0 : cond0_0 i) (hc1 : cond0_1 i) (hc2 : ¬cond0_2 i) (hc3 : ¬cond0_3 i)
    (x0 x1 : Vec F S1024x1024 .f32) (x2 : Vec F S1x1 .i32) (o : Ops F) (xi6 : Vec F S1x1 .f32)
    (k0_hw1 : k0_chk1 i (arg14.view.readAt (Elt F) (Rect.unit (s := S1x1) ![0, 0] S1x1.size inb_S1x1_S1x1_0_0).toLoadRect (harg14.unread x2) (Shape.Idx.first (numel1_S1x1.symm ▸ Nat.one_pos))))
    (W : Waits sig Unit) (K : PUnit → sProp 𝕄) :
    iprop(
owns (c : Thread nD τ) arg1 fullShare x0
      ∗ owns (c : Thread nD τ) arg2 fullShare x1
      ∗ owns (c : Thread nD τ) arg14 fullShare x2
      ∗ (∃ d, owns (c : Thread nD τ) arg15 fullShare d)
      ∗ (∃ d, owns (c : Thread nD τ) arg16 fullShare d)
      ∗ (∃ d, owns (c : Thread nD τ) arg17 fullShare d)
      ∗ owns (c : Thread nD τ) arg18 fullShare xi6
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)
      ∗ (∃ d, owns (c : Thread nD τ) arg23 fullShare d)
      ∗ (∃ d, owns (c : Thread nD τ) arg24 fullShare d)
      ∗ (∃ d, owns (c : Thread nD τ) arg25 fullShare d)
      ∗ (∃ d, owns (c : Thread nD τ) arg26 fullShare d)
      ∗ (∃ d, owns (c : Thread nD τ) arg27 fullShare d)
      ∗ (∃ d, owns (c : Thread nD τ) arg28 fullShare d)
      ∗ (∃ d, owns (c : Thread nD τ) arg29 fullShare d)
      ∗ (∃ d, owns (c : Thread nD τ) arg30 fullShare d)
      ∗ (∃ d, owns (c : Thread nD τ) arg31 fullShare d)
      ∗ (∃ d, owns (c : Thread nD τ) arg32 fullShare d)
      ∗ (∃ d, owns (c : Thread nD τ) arg33 fullShare d)
      ∗ (∃ d, owns (c : Thread nD τ) arg35 fullShare d)
      ∗ (∃ d, owns (c : Thread nD τ) arg36 fullShare d)
      ∗ semVal ((c : Thread nD τ), SemLoc.dma 12) 0
      ∗ semVal ((c : Thread nD τ), SemLoc.dma 13) 0
      ∗ semVal ((c : Thread nD τ), SemLoc.dma 14) 0
      ∗ semVal ((c : Thread nD τ), SemLoc.dma 15) 0
      ∗ semVal ((c : Thread nD τ), SemLoc.dma 16) 0
      ∗ semVal ((c : Thread nD τ), SemLoc.dma 17) 0
      ∗ semVal ((c : Thread nD τ), SemLoc.dma 18) 0
      ∗ semVal ((c : Thread nD τ), SemLoc.dma 19) 0
      ∗ semVal ((c : Thread nD τ), SemLoc.dma 20) 0
      ∗ semVal ((c : Thread nD τ), SemLoc.dma 21) 0
      ∗ semVal ((c : Thread nD τ), SemLoc.dma 22) 0
      ∗ hbPt0 c hbM0_0 (o.wred)
      ∗ hbPt0 c hbM0_1 (o.g1)
      ∗ hbPt0 c hbM0_2 (o.b1)
      ∗ hbPt0 c hbM0_3 (o.g2)
      ∗ hbPt0 c hbM0_4 (o.b2)
      ∗ hbPt0 c hbM0_5 (o.wg)
      ∗ hbPt0 c hbM0_6 (o.we1)
      ∗ hbPt0 c hbM0_7 (o.be1)
      ∗ hbPt0 c hbM0_8 (o.w2)
      ∗ hbPt0 c hbM0_9 (o.be2)
      ∗ hbPt0 c hbM0_10 (o.ms)
      ∗ owes (c : Thread nD τ) 0 W
      ∗ (iprop(owns (c : Thread nD τ) arg1 fullShare x0
        ∗ owns (c : Thread nD τ) arg2 fullShare x1
        ∗ owns (c : Thread nD τ) arg14 fullShare x2
        ∗ owns (c : Thread nD τ) arg15 fullShare (outX x0 x1 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)) (arg14.view.readAt (Elt F) (Rect.unit (s := S1x1) ![0, 0] S1x1.size inb_S1x1_S1x1_0_0).toLoadRect (harg14.unread x2) (Shape.Idx.first (numel1_S1x1.symm ▸ Nat.one_pos))) k0_hw1.2.1)
        ∗ owns (c : Thread nD τ) arg16 fullShare (outT x0 x1 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)) (arg14.view.readAt (Elt F) (Rect.unit (s := S1x1) ![0, 0] S1x1.size inb_S1x1_S1x1_0_0).toLoadRect (harg14.unread x2) (Shape.Idx.first (numel1_S1x1.symm ▸ Nat.one_pos))) k0_hw1.2.2)
        ∗ owns (c : Thread nD τ) arg17 fullShare (outP x0 x1 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)))
        ∗ owns (c : Thread nD τ) arg18 fullShare xi6
        ∗ (∃ d, owns (c : Thread nD τ) arg19 fullShare d)
        ∗ owns (c : Thread nD τ) arg20 fullShare (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).wx
        ∗ owns (c : Thread nD τ) arg21 fullShare (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).wt
        ∗ owns (c : Thread nD τ) arg22 fullShare (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).c2
        ∗ owns (c : Thread nD τ) arg23 fullShare (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).g2
        ∗ owns (c : Thread nD τ) arg24 fullShare (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).b2
        ∗ (∃ d, owns (c : Thread nD τ) arg25 fullShare d)
        ∗ (∃ d, owns (c : Thread nD τ) arg26 fullShare d)
        ∗ (∃ d, owns (c : Thread nD τ) arg27 fullShare d)
        ∗ owns (c : Thread nD τ) arg28 fullShare (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).w1
        ∗ owns (c : Thread nD τ) arg29 fullShare (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).b1
        ∗ owns (c : Thread nD τ) arg30 fullShare (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).sel
        ∗ owns (c : Thread nD τ) arg31 fullShare (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).w2
        ∗ owns (c : Thread nD τ) arg32 fullShare (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).be2
        ∗ owns (c : Thread nD τ) arg33 fullShare (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).ms
        ∗ owns (c : Thread nD τ) arg35 fullShare (k0_pay6 (gts x0 x1 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0))))
        ∗ owns (c : Thread nD τ) arg36 fullShare (k0_pay7 (gts x0 x1 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0))))
        ∗ semVal ((c : Thread nD τ), SemLoc.dma 12) 0
        ∗ semVal ((c : Thread nD τ), SemLoc.dma 13) 0
        ∗ semVal ((c : Thread nD τ), SemLoc.dma 14) 0
        ∗ semVal ((c : Thread nD τ), SemLoc.dma 15) 0
        ∗ semVal ((c : Thread nD τ), SemLoc.dma 16) 0
        ∗ semVal ((c : Thread nD τ), SemLoc.dma 17) 0
        ∗ semVal ((c : Thread nD τ), SemLoc.dma 18) 0
        ∗ semVal ((c : Thread nD τ), SemLoc.dma 19) 0
        ∗ semVal ((c : Thread nD τ), SemLoc.dma 20) 0
        ∗ semVal ((c : Thread nD τ), SemLoc.dma 21) 0
        ∗ semVal ((c : Thread nD τ), SemLoc.dma 22) 0
        ∗ hbPt0 c hbM0_0 (o.wred)
        ∗ hbPt0 c hbM0_1 (o.g1)
        ∗ hbPt0 c hbM0_2 (o.b1)
        ∗ hbPt0 c hbM0_3 (o.g2)
        ∗ hbPt0 c hbM0_4 (o.b2)
        ∗ hbPt0 c hbM0_5 (o.wg)
        ∗ hbPt0 c hbM0_6 (o.we1)
        ∗ hbPt0 c hbM0_7 (o.be1)
        ∗ hbPt0 c hbM0_8 (o.w2)
        ∗ hbPt0 c hbM0_9 (o.be2)
        ∗ hbPt0 c hbM0_10 (o.ms)
        ∗ (∃ W', owes (c : Thread nD τ) 0 W')) -∗ K ⟨⟩))
    ⊢ wp frame (wpE (defs₀ (F := F)) Variants.none c none) Set.univ (cc0__body i arg1 harg1 arg2 harg2 (Memref.whole main_arg4) (Memref.isWhole_whole _) (Memref.whole main_v3) (Memref.isWhole_whole _) (Memref.whole main_v4) (Memref.isWhole_whole _) (Memref.whole main_v5) (Memref.isWhole_whole _) (Memref.whole main_v6) (Memref.isWhole_whole _) (Memref.whole main_arg7) (Memref.isWhole_whole _) (Memref.whole main_arg8) (Memref.isWhole_whole _) (Memref.whole main_arg9) (Memref.isWhole_whole _) (Memref.whole main_v7) (Memref.isWhole_whole _) (Memref.whole main_arg11) (Memref.isWhole_whole _) (Memref.whole main_arg12) (Memref.isWhole_whole _) arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 cc0_scratch15 arg35 harg35 arg36 harg36) K := by
  simp only [cc0__body_eq_skeleton]; unfold cc0__body_skel
  simp only [k0_part5_eq_skeleton, k0_part1_eq_skeleton, k0_part2_eq_skeleton, k0_part3_eq_skeleton, k0_part4_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%dS0, %fS0, -, HS0⟩, ⟨%dS1, %fS1, -, HS1⟩, ⟨%dS2, %fS2, -, HS2⟩, ⟨%dS3, %fS3, -, HS3⟩, ⟨%dS4, %fS4, -, HS4⟩, ⟨%dS5, %fS5, -, HS5⟩, ⟨%dS6, %fS6, -, HS6⟩, ⟨%dS7, %fS7, -, HS7⟩, ⟨%dS8, %fS8, -, HS8⟩, ⟨%dS9, %fS9, -, HS9⟩, ⟨%dS10, %fS10, -, HS10⟩, ⟨%dS11, %fS11, -, HS11⟩, ⟨%dS12, %fS12, -, HS12⟩, ⟨%dS13, %fS13, -, HS13⟩, ⟨%dS14, %fS14, -, HS14⟩, ⟨%dS15, %fS15, -, HS15⟩, ⟨%dS16, %fS16, -, HS16⟩, Hq0, Hq1, Hq2, Hq3, Hq4, Hq5, Hq6, Hq7, Hq8, Hq9, Hq10, Hh0, Hh1, Hh2, Hh3, Hh4, Hh5, Hh6, Hh7, Hh8, Hh9, Hh10, HW, Hk⟩
  obtain rfl := harg1.eq_unread hf0
  obtain rfl := harg2.eq_unread hf1
  obtain rfl := harg14.eq_unread hf2
  obtain rfl := harg18.eq_unread hf6
  ihave HS0' := (split3 (F := F) (c : Thread nD τ) arg19 fS0) $$ HS0
  ihave H0 := (aside_intro (F := F) _) $$ H0
  icases HS0' with ⟨HSa, HSb, HSc, HSr⟩
  sl_exec (disch := first | sl_exact hc0 | sl_exact hc1 | sl_exact hc2 | sl_exact hc3 | sl_exact k0_hw1)
  ihave HS0 := (join3 (F := F) (c : Thread nD τ) arg19 fS0 _ _ _) $$ [HSa HSb HSc HSr]
  · isplitl [HSa]; · iexact HSa
    isplitl [HSb]; · iexact HSb
    isplitl [HSc]; · iexact HSc
    iexact HSr
  ihave HS1 := (to_unread (F := F) (c : Thread nD τ) arg20 harg20 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).wx) $$ [HS1]
  · iexists _; isplitr; rotate_left 1; · iexact HS1
    ipureintro
    sl_unfold_run_names
    refine (View.read_writes_full _ _ _ _ _).trans ?_
    try simp (disch := decide) only [load_window (r := rA), load_window (r := rB), load_window (r := rC), cov_whole, read_whole, View.ld_unit_lit', View.readCov_unit_lit', View.readCov_cons_unit_lit', View.readAt_eq_ld, Memref.IsWhole.read_unread]
    rfl
  ihave HS2 := (to_unread (F := F) (c : Thread nD τ) arg21 harg21 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).wt) $$ [HS2]
  · iexists _; isplitr; rotate_left 1; · iexact HS2
    ipureintro
    sl_unfold_run_names
    refine (View.read_writes_full _ _ _ _ _).trans ?_
    try simp (disch := decide) only [load_window (r := rA), load_window (r := rB), load_window (r := rC), cov_whole, read_whole, View.ld_unit_lit', View.readCov_unit_lit', View.readCov_cons_unit_lit', View.readAt_eq_ld, Memref.IsWhole.read_unread]
    rfl
  ihave HS3 := (to_unread (F := F) (c : Thread nD τ) arg22 harg22 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).c2) $$ [HS3]
  · iexists _; isplitr; rotate_left 1; · iexact HS3
    ipureintro
    sl_unfold_run_names
    refine (View.read_writes_full _ _ _ _ _).trans ?_
    try simp (disch := decide) only [load_window (r := rA), load_window (r := rB), load_window (r := rC), cov_whole, read_whole, View.ld_unit_lit', View.readCov_unit_lit', View.readCov_cons_unit_lit', View.readAt_eq_ld, Memref.IsWhole.read_unread]
    rfl
  ihave HS4 := (to_unread (F := F) (c : Thread nD τ) arg23 harg23 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).g2) $$ [HS4]
  · iexists _; isplitr; rotate_left 1; · iexact HS4
    ipureintro
    sl_unfold_run_names
    refine (View.read_writes_full _ _ _ _ _).trans ?_
    try simp (disch := decide) only [load_window (r := rA), load_window (r := rB), load_window (r := rC), cov_whole, read_whole, View.ld_unit_lit', View.readCov_unit_lit', View.readCov_cons_unit_lit', View.readAt_eq_ld, Memref.IsWhole.read_unread]
    rfl
  ihave HS5 := (to_unread (F := F) (c : Thread nD τ) arg24 harg24 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).b2) $$ [HS5]
  · iexists _; isplitr; rotate_left 1; · iexact HS5
    ipureintro
    sl_unfold_run_names
    refine (View.read_writes_full _ _ _ _ _).trans ?_
    try simp (disch := decide) only [load_window (r := rA), load_window (r := rB), load_window (r := rC), cov_whole, read_whole, View.ld_unit_lit', View.readCov_unit_lit', View.readCov_cons_unit_lit', View.readAt_eq_ld, Memref.IsWhole.read_unread]
    rfl
  ihave HS9 := (to_unread (F := F) (c : Thread nD τ) arg28 harg28 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).w1) $$ [HS9]
  · iexists _; isplitr; rotate_left 1; · iexact HS9
    ipureintro
    sl_unfold_run_names
    refine (View.read_writes_full _ _ _ _ _).trans ?_
    show k0_pay15 _ _ _ _ _ = k0_pay15 _ _ _ _ _
    exact congr (congr (congr (congr (congrArg k0_pay15 (cov_whole _ _ _)) (cov_whole _ _ _)) (cov_whole _ _ _)) (cov_whole _ _ _)) (load_whole _ _ _ _)
  ihave HS10 := (to_unread (F := F) (c : Thread nD τ) arg29 harg29 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).b1) $$ [HS10]
  · iexists _; isplitr; rotate_left 1; · iexact HS10
    ipureintro
    sl_unfold_run_names
    refine (View.read_writes_full _ _ _ _ _).trans ?_
    show k0_pay16 _ _ _ _ = k0_pay16 _ _ _ _
    exact congr (congr (congr (congrArg k0_pay16 (cov_whole _ _ _)) (cov_whole _ _ _)) (cov_whole _ _ _)) (cov_whole _ _ _)
  ihave HS11 := (to_unread (F := F) (c : Thread nD τ) arg30 harg30 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).sel) $$ [HS11]
  · iexists _; isplitr; rotate_left 1; · iexact HS11
    ipureintro
    sl_unfold_run_names
    refine (View.read_writes_full _ _ _ _ _).trans ?_
    try simp (disch := decide) only [load_window (r := rA), load_window (r := rB), load_window (r := rC), cov_whole, read_whole, View.ld_unit_lit', View.readCov_unit_lit', View.readCov_cons_unit_lit', View.readAt_eq_ld, Memref.IsWhole.read_unread]
    rfl
  ihave HS12 := (to_unread (F := F) (c : Thread nD τ) arg31 harg31 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).w2) $$ [HS12]
  · iexists _; isplitr; rotate_left 1; · iexact HS12
    ipureintro
    sl_unfold_run_names
    refine (View.read_writes_full _ _ _ _ _).trans ?_
    try simp (disch := decide) only [load_window (r := rA), load_window (r := rB), load_window (r := rC), cov_whole, read_whole, View.ld_unit_lit', View.readCov_unit_lit', View.readCov_cons_unit_lit', View.readAt_eq_ld, Memref.IsWhole.read_unread]
    rfl
  ihave HS13 := (to_unread (F := F) (c : Thread nD τ) arg32 harg32 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).be2) $$ [HS13]
  · iexists _; isplitr; rotate_left 1; · iexact HS13
    ipureintro
    sl_unfold_run_names
    refine (View.read_writes_full _ _ _ _ _).trans ?_
    try simp (disch := decide) only [load_window (r := rA), load_window (r := rB), load_window (r := rC), cov_whole, read_whole, View.ld_unit_lit', View.readCov_unit_lit', View.readCov_cons_unit_lit', View.readAt_eq_ld, Memref.IsWhole.read_unread]
    rfl
  ihave HS14 := (to_unread (F := F) (c : Thread nD τ) arg33 harg33 (prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0)).ms) $$ [HS14]
  · iexists _; isplitr; rotate_left 1; · iexact HS14
    ipureintro
    sl_unfold_run_names
    refine (View.read_writes_full _ _ _ _ _).trans ?_
    try simp (disch := decide) only [load_window (r := rA), load_window (r := rB), load_window (r := rC), cov_whole, read_whole, View.ld_unit_lit', View.readCov_unit_lit', View.readCov_cons_unit_lit', View.readAt_eq_ld, Memref.IsWhole.read_unread]
    rfl
  ihave H0 := (aside_elim (F := F) _) $$ H0
  generalize prep o (arg14.view.readAt (Elt F) (Rect.unit (s := S1x1) ![0, 0] S1x1.size inb_S1x1_S1x1_0_0).toLoadRect (harg14.unread x2) (Shape.Idx.first (numel1_S1x1.symm ▸ Nat.one_pos))) (k0_hw1.1 hc0) = k
  sl_exec (disch := first | sl_exact hc0 | sl_exact hc1 | sl_exact hc2 | sl_exact hc3 | sl_exact k0_hw1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg14.read_unread _
    iexact H2
  isplitl [H3]
  · iexists _; isplitr; rotate_left 1; · iexact H3
    ipureintro
    sl_unfold_run_names
    refine (View.read_writes_full _ _ _ _ _).trans ?_
    simp (disch := decide) only [View.ld_unit_lit', View.readCov_unit_lit', View.readCov_cons_unit_lit', View.readAt_eq_ld, Memref.IsWhole.read_unread]
    rfl
  isplitl [H4]
  · iexists _; isplitr; rotate_left 1; · iexact H4
    ipureintro
    sl_unfold_run_names
    refine (View.read_writes_full _ _ _ _ _).trans ?_
    simp (disch := decide) only [View.ld_unit_lit', View.readCov_unit_lit', View.readCov_cons_unit_lit', View.readAt_eq_ld, Memref.IsWhole.read_unread]
    rfl
  isplitl [H5]
  · iexists _; isplitr; rotate_left 1; · iexact H5
    ipureintro
    sl_unfold_run_names
    refine (View.read_writes_eq_canon _ _ _ (cover_P _ _)).trans ?_
    simp (disch := decide) only [View.ld_unit_lit', View.readCov_unit_lit', View.readCov_cons_unit_lit', View.readAt_eq_ld, Memref.IsWhole.read_unread]
    rfl
  isplitl [H6]
  · iexists _; isplitr; · ipureintro; exact harg18.read_unread _
    iexact H6
  isplitl [HS0]; · iapply (any_owns (F := F) (c : Thread nD τ) arg19 _) $$ HS0
  isplitl [HS1]
  · iexists _; isplitr; · ipureintro; exact harg20.read_unread _
    iexact HS1
  isplitl [HS2]
  · iexists _; isplitr; · ipureintro; exact harg21.read_unread _
    iexact HS2
  isplitl [HS3]
  · iexists _; isplitr; · ipureintro; exact harg22.read_unread _
    iexact HS3
  isplitl [HS4]
  · iexists _; isplitr; · ipureintro; exact harg23.read_unread _
    iexact HS4
  isplitl [HS5]
  · iexists _; isplitr; · ipureintro; exact harg24.read_unread _
    iexact HS5
  isplitl [HS6]; · iapply (any_owns (F := F) (c : Thread nD τ) arg25 _) $$ HS6
  isplitl [HS7]; · iapply (any_owns (F := F) (c : Thread nD τ) arg26 _) $$ HS7
  isplitl [HS8]; · iapply (any_owns (F := F) (c : Thread nD τ) arg27 _) $$ HS8
  isplitl [HS9]
  · iexists _; isplitr; · ipureintro; exact harg28.read_unread _
    iexact HS9
  isplitl [HS10]
  · iexists _; isplitr; · ipureintro; exact harg29.read_unread _
    iexact HS10
  isplitl [HS11]
  · iexists _; isplitr; · ipureintro; exact harg30.read_unread _
    iexact HS11
  isplitl [HS12]
  · iexists _; isplitr; · ipureintro; exact harg31.read_unread _
    iexact HS12
  isplitl [HS13]
  · iexists _; isplitr; · ipureintro; exact harg32.read_unread _
    iexact HS13
  isplitl [HS14]
  · iexists _; isplitr; · ipureintro; exact harg33.read_unread _
    iexact HS14
  isplitl [HS15]
  · iexists _; isplitr; rotate_left 1; · iexact HS15
    ipureintro
    sl_unfold_run_names
    refine (View.read_writes_full _ _ _ _ _).trans ?_
    simp (disch := decide) only [View.ld_unit_lit', View.readCov_unit_lit', View.readCov_cons_unit_lit', View.readAt_eq_ld, Memref.IsWhole.read_unread]
    rfl
  isplitl [HS16]
  · iexists _; isplitr; rotate_left 1; · iexact HS16
    ipureintro
    sl_unfold_run_names
    refine (View.read_writes_full _ _ _ _ _).trans ?_
    simp (disch := decide) only [View.ld_unit_lit', View.readCov_unit_lit', View.readCov_cons_unit_lit', View.readAt_eq_ld, Memref.IsWhole.read_unread]
    rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  iexists _; iexact HW

end Cert.KernelIdeal.Hand

end
-- ==== Proof.Ideal.RunB.lean ====
module

public import proofs.«01_k».proof.Proof.Ideal.RunA

/-! The body's run in one case of its four conditionals. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (Pipeline.UD sig nD τ) ℕ

set_option maxHeartbeats 1600000 in
/-- A MIDDLE POINT: the outputs from the carried weights, the sums advanced. -/
theorem runB (c : Dev nD) (i : grid0.Coords)
    (arg1 : Memref sig .tc .vmem S1024x1024 .f32) (harg1 : arg1.IsWhole)
    (arg2 : Memref sig .tc .vmem S1024x1024 .f32) (harg2 : arg2.IsWhole)
    (arg14 : Memref sig .tc .smem S1x1 .i32) (harg14 : arg14.IsWhole)
    (arg15 : Memref sig .tc .vmem S1024x1024 .f32) (harg15 : arg15.IsWhole)
    (arg16 : Memref sig .tc .vmem S1024x1024 .f32) (harg16 : arg16.IsWhole)
    (arg17 : Memref sig .tc .vmem S2x1x8x128 .f32) (harg17 : arg17.IsWhole)
    (arg18 : Memref sig .tc .vmem S1x1 .f32) (harg18 : arg18.IsWhole)
    (arg19 : Memref sig .tc .vmem S258x2048 .f32) (harg19 : arg19.IsWhole)
    (arg20 : Memref sig .tc .vmem S256x1024 .bf16) (harg20 : arg20.IsWhole)
    (arg21 : Memref sig .tc .vmem S256x1024 .bf16) (harg21 : arg21.IsWhole)
    (arg22 : Memref sig .tc .vmem S1x256 .f32) (harg22 : arg22.IsWhole)
    (arg23 : Memref sig .tc .vmem S1x256 .f32) (harg23 : arg23.IsWhole)
    (arg24 : Memref sig .tc .vmem S1x256 .f32) (harg24 : arg24.IsWhole)
    (arg25 : Memref sig .tc .vmem S3x256x4 .f32) (harg25 : arg25.IsWhole)
    (arg26 : Memref sig .tc .vmem S4x256x32 .f32) (harg26 : arg26.IsWhole)
    (arg27 : Memref sig .tc .vmem S4x32 .f32) (harg27 : arg27.IsWhole)
    (arg28 : Memref sig .tc .vmem S256x132 .bf16) (harg28 : arg28.IsWhole)
    (arg29 : Memref sig .tc .vmem S1x132 .f32) (harg29 : arg29.IsWhole)
    (arg30 : Memref sig .tc .vmem S4x128 .bf16) (harg30 : arg30.IsWhole)
    (arg31 : Memref sig .tc .vmem S128x256 .f32) (harg31 : arg31.IsWhole)
    (arg32 : Memref sig .tc .vmem S4x256 .f32) (harg32 : arg32.IsWhole)
    (arg33 : Memref sig .tc .vmem S6x1024 .f32) (harg33 : arg33.IsWhole)
    (arg35 : Memref sig .tc .vmem S1x4 .f32) (harg35 : arg35.IsWhole)
    (arg36 : Memref sig .tc .vmem S1x4 .f32) (harg36 : arg36.IsWhole)
    (hc0 : ¬cond0_0 i) (hc1 : ¬cond0_1 i) (hc2 : cond0_2 i) (hc3 : ¬cond0_3 i)
    (x0 x1 : Vec F S1024x1024 .f32) (x2 : Vec F S1x1 .i32) (o : Ops F) (k : Carry F) (im lo : Vec F S1x4 .f32) (xi6 : Vec F S1x1 .f32)
    (k0_hw1 : k0_chk1 i (arg14.view.readAt (Elt F) (Rect.unit (s := S1x1) ![0, 0] S1x1.size inb_S1x1_S1x1_0_0).toLoadRect (harg14.unread x2) (Shape.Idx.first (numel1_S1x1.symm ▸ Nat.one_pos))))
    (W : Waits sig Unit) (K : PUnit → sProp 𝕄) :
    iprop(
owns (c : Thread nD τ) arg1 fullShare x0
      ∗ owns (c : Thread nD τ) arg2 fullShare x1
      ∗ owns (c : Thread nD τ) arg14 fullShare x2
      ∗ (∃ d, owns (c : Thread nD τ) arg15 fullShare d)
      ∗ (∃ d, owns (c : Thread nD τ) arg16 fullShare d)
      ∗ (∃ d, owns (c : Thread nD τ) arg17 fullShare d)
      ∗ owns (c : Thread nD τ) arg18 fullShare xi6
      ∗ (∃ d, owns (c : Thread nD τ) arg19 fullShare d)
      ∗ owns (c : Thread nD τ) arg20 fullShare k.wx
      ∗ owns (c : Thread nD τ) arg21 fullShare k.wt
      ∗ owns (c : Thread nD τ) arg22 fullShare k.c2
      ∗ owns (c : Thread nD τ) arg23 fullShare k.g2
      ∗ owns (c : Thread nD τ) arg24 fullShare k.b2
      ∗ (∃ d, owns (c : Thread nD τ) arg25 fullShare d)
      ∗ (∃ d, owns (c : Thread nD τ) arg26 fullShare d)
      ∗ (∃ d, owns (c : Thread nD τ) arg27 fullShare d)
      ∗ owns (c : Thread nD τ) arg28 fullShare k.w1
      ∗ owns (c : Thread nD τ) arg29 fullShare k.b1
      ∗ owns (c : Thread nD τ) arg30 fullShare k.sel
      ∗ owns (c : Thread nD τ) arg31 fullShare k.w2
      ∗ owns (c : Thread nD τ) arg32 fullShare k.be2
      ∗ owns (c : Thread nD τ) arg33 fullShare k.ms
      ∗ owns (c : Thread nD τ) arg35 fullShare im
      ∗ owns (c : Thread nD τ) arg36 fullShare lo
      ∗ semVal ((c : Thread nD τ), SemLoc.dma 12) 0
      ∗ semVal ((c : Thread nD τ), SemLoc.dma 13) 0
      ∗ semVal ((c : Thread nD τ), SemLoc.dma 14) 0
      ∗ semVal ((c : Thread nD τ), SemLoc.dma 15) 0
      ∗ semVal ((c : Thread nD τ), SemLoc.dma 16) 0
      ∗ semVal ((c : Thread nD τ), SemLoc.dma 17) 0
      ∗ semVal ((c : Thread nD τ), SemLoc.dma 18) 0
      ∗ semVal ((c : Thread nD τ), SemLoc.dma 19) 0
      ∗ semVal ((c : Thread nD τ), SemLoc.dma 20) 0
      ∗ semVal ((c : Thread nD τ), SemLoc.dma 21) 0
      ∗ semVal ((c : Thread nD τ), SemLoc.dma 22) 0
      ∗ hbPt0 c hbM0_0 (o.wred)
      ∗ hbPt0 c hbM0_1 (o.g1)
      ∗ hbPt0 c hbM0_2 (o.b1)
      ∗ hbPt0 c hbM0_3 (o.g2)
      ∗ hbPt0 c hbM0_4 (o.b2)
      ∗ hbPt0 c hbM0_5 (o.wg)
      ∗ hbPt0 c hbM0_6 (o.we1)
      ∗ hbPt0 c hbM0_7 (o.be1)
      ∗ hbPt0 c hbM0_8 (o.w2)
      ∗ hbPt0 c hbM0_9 (o.be2)
      ∗ hbPt0 c hbM0_10 (o.ms)
      ∗ owes (c : Thread nD τ) 0 W
      ∗ (iprop(owns (c : Thread nD τ) arg1 fullShare x0
        ∗ owns (c : Thread nD τ) arg2 fullShare x1
        ∗ owns (c : Thread nD τ) arg14 fullShare x2
        ∗ owns (c : Thread nD τ) arg15 fullShare (outX x0 x1 k (arg14.view.readAt (Elt F) (Rect.unit (s := S1x1) ![0, 0] S1x1.size inb_S1x1_S1x1_0_0).toLoadRect (harg14.unread x2) (Shape.Idx.first (numel1_S1x1.symm ▸ Nat.one_pos))) k0_hw1.2.1)
        ∗ owns (c : Thread nD τ) arg16 fullShare (outT x0 x1 k (arg14.view.readAt (Elt F) (Rect.unit (s := S1x1) ![0, 0] S1x1.size inb_S1x1_S1x1_0_0).toLoadRect (harg14.unread x2) (Shape.Idx.first (numel1_S1x1.symm ▸ Nat.one_pos))) k0_hw1.2.2)
        ∗ owns (c : Thread nD τ) arg17 fullShare (outP x0 x1 k)
        ∗ owns (c : Thread nD τ) arg18 fullShare xi6
        ∗ (∃ d, owns (c : Thread nD τ) arg19 fullShare d)
        ∗ owns (c : Thread nD τ) arg20 fullShare k.wx
        ∗ owns (c : Thread nD τ) arg21 fullShare k.wt
        ∗ owns (c : Thread nD τ) arg22 fullShare k.c2
        ∗ owns (c : Thread nD τ) arg23 fullShare k.g2
        ∗ owns (c : Thread nD τ) arg24 fullShare k.b2
        ∗ (∃ d, owns (c : Thread nD τ) arg25 fullShare d)
        ∗ (∃ d, owns (c : Thread nD τ) arg26 fullShare d)
        ∗ (∃ d, owns (c : Thread nD τ) arg27 fullShare d)
        ∗ owns (c : Thread nD τ) arg28 fullShare k.w1
        ∗ owns (c : Thread nD τ) arg29 fullShare k.b1
        ∗ owns (c : Thread nD τ) arg30 fullShare k.sel
        ∗ owns (c : Thread nD τ) arg31 fullShare k.w2
        ∗ owns (c : Thread nD τ) arg32 fullShare k.be2
        ∗ owns (c : Thread nD τ) arg33 fullShare k.ms
        ∗ owns (c : Thread nD τ) arg35 fullShare (k0_pay8 (gts x0 x1 k) im)
        ∗ owns (c : Thread nD τ) arg36 fullShare (k0_pay9 (gts x0 x1 k) lo)
        ∗ semVal ((c : Thread nD τ), SemLoc.dma 12) 0
        ∗ semVal ((c : Thread nD τ), SemLoc.dma 13) 0
        ∗ semVal ((c : Thread nD τ), SemLoc.dma 14) 0
        ∗ semVal ((c : Thread nD τ), SemLoc.dma 15) 0
        ∗ semVal ((c : Thread nD τ), SemLoc.dma 16) 0
        ∗ semVal ((c : Thread nD τ), SemLoc.dma 17) 0
        ∗ semVal ((c : Thread nD τ), SemLoc.dma 18) 0
        ∗ semVal ((c : Thread nD τ), SemLoc.dma 19) 0
        ∗ semVal ((c : Thread nD τ), SemLoc.dma 20) 0
        ∗ semVal ((c : Thread nD τ), SemLoc.dma 21) 0
        ∗ semVal ((c : Thread nD τ), SemLoc.dma 22) 0
        ∗ hbPt0 c hbM0_0 (o.wred)
        ∗ hbPt0 c hbM0_1 (o.g1)
        ∗ hbPt0 c hbM0_2 (o.b1)
        ∗ hbPt0 c hbM0_3 (o.g2)
        ∗ hbPt0 c hbM0_4 (o.b2)
        ∗ hbPt0 c hbM0_5 (o.wg)
        ∗ hbPt0 c hbM0_6 (o.we1)
        ∗ hbPt0 c hbM0_7 (o.be1)
        ∗ hbPt0 c hbM0_8 (o.w2)
        ∗ hbPt0 c hbM0_9 (o.be2)
        ∗ hbPt0 c hbM0_10 (o.ms)
        ∗ (∃ W', owes (c : Thread nD τ) 0 W')) -∗ K ⟨⟩))
    ⊢ wp frame (wpE (defs₀ (F := F)) Variants.none c none) Set.univ (cc0__body i arg1 harg1 arg2 harg2 (Memref.whole main_arg4) (Memref.isWhole_whole _) (Memref.whole main_v3) (Memref.isWhole_whole _) (Memref.whole main_v4) (Memref.isWhole_whole _) (Memref.whole main_v5) (Memref.isWhole_whole _) (Memref.whole main_v6) (Memref.isWhole_whole _) (Memref.whole main_arg7) (Memref.isWhole_whole _) (Memref.whole main_arg8) (Memref.isWhole_whole _) (Memref.whole main_arg9) (Memref.isWhole_whole _) (Memref.whole main_v7) (Memref.isWhole_whole _) (Memref.whole main_arg11) (Memref.isWhole_whole _) (Memref.whole main_arg12) (Memref.isWhole_whole _) arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 cc0_scratch15 arg35 harg35 arg36 harg36) K := by
  simp only [cc0__body_eq_skeleton]; unfold cc0__body_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%dS0, %fS0, -, HS0⟩, ⟨%fS1, %hfS1, HS1⟩, ⟨%fS2, %hfS2, HS2⟩, ⟨%fS3, %hfS3, HS3⟩, ⟨%fS4, %hfS4, HS4⟩, ⟨%fS5, %hfS5, HS5⟩, ⟨%dS6, %fS6, -, HS6⟩, ⟨%dS7, %fS7, -, HS7⟩, ⟨%dS8, %fS8, -, HS8⟩, ⟨%fS9, %hfS9, HS9⟩, ⟨%fS10, %hfS10, HS10⟩, ⟨%fS11, %hfS11, HS11⟩, ⟨%fS12, %hfS12, HS12⟩, ⟨%fS13, %hfS13, HS13⟩, ⟨%fS14, %hfS14, HS14⟩, ⟨%fS15, %hfS15, HS15⟩, ⟨%fS16, %hfS16, HS16⟩, Hq0, Hq1, Hq2, Hq3, Hq4, Hq5, Hq6, Hq7, Hq8, Hq9, Hq10, Hh0, Hh1, Hh2, Hh3, Hh4, Hh5, Hh6, Hh7, Hh8, Hh9, Hh10, HW, Hk⟩
  obtain rfl := harg1.eq_unread hf0
  obtain rfl := harg2.eq_unread hf1
  obtain rfl := harg14.eq_unread hf2
  obtain rfl := harg18.eq_unread hf6
  obtain rfl := harg20.eq_unread hfS1
  obtain rfl := harg21.eq_unread hfS2
  obtain rfl := harg22.eq_unread hfS3
  obtain rfl := harg23.eq_unread hfS4
  obtain rfl := harg24.eq_unread hfS5
  obtain rfl := harg28.eq_unread hfS9
  obtain rfl := harg29.eq_unread hfS10
  obtain rfl := harg30.eq_unread hfS11
  obtain rfl := harg31.eq_unread hfS12
  obtain rfl := harg32.eq_unread hfS13
  obtain rfl := harg33.eq_unread hfS14
  obtain rfl := harg35.eq_unread hfS15
  obtain rfl := harg36.eq_unread hfS16
  sl_exec (disch := first | sl_exact hc0 | sl_exact hc1 | sl_exact hc2 | sl_exact hc3 | sl_exact k0_hw1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg14.read_unread _
    iexact H2
  isplitl [H3]
  · iexists _; isplitr; rotate_left 1; · iexact H3
    ipureintro
    sl_unfold_run_names
    refine (View.read_writes_full _ _ _ _ _).trans ?_
    simp (disch := decide) only [View.ld_unit_lit', View.readCov_unit_lit', View.readCov_cons_unit_lit', View.readAt_eq_ld, Memref.IsWhole.read_unread]
    rfl
  isplitl [H4]
  · iexists _; isplitr; rotate_left 1; · iexact H4
    ipureintro
    sl_unfold_run_names
    refine (View.read_writes_full _ _ _ _ _).trans ?_
    simp (disch := decide) only [View.ld_unit_lit', View.readCov_unit_lit', View.readCov_cons_unit_lit', View.readAt_eq_ld, Memref.IsWhole.read_unread]
    rfl
  isplitl [H5]
  · iexists _; isplitr; rotate_left 1; · iexact H5
    ipureintro
    sl_unfold_run_names
    refine (View.read_writes_eq_canon _ _ _ (cover_P _ _)).trans ?_
    simp (disch := decide) only [View.ld_unit_lit', View.readCov_unit_lit', View.readCov_cons_unit_lit', View.readAt_eq_ld, Memref.IsWhole.read_unread]
    rfl
  isplitl [H6]
  · iexists _; isplitr; · ipureintro; exact harg18.read_unread _
    iexact H6
  isplitl [HS0]; · iapply (any_owns (F := F) (c : Thread nD τ) arg19 _) $$ HS0
  isplitl [HS1]
  · iexists _; isplitr; · ipureintro; exact harg20.read_unread _
    iexact HS1
  isplitl [HS2]
  · iexists _; isplitr; · ipureintro; exact harg21.read_unread _
    iexact HS2
  isplitl [HS3]
  · iexists _; isplitr; · ipureintro; exact harg22.read_unread _
    iexact HS3
  isplitl [HS4]
  · iexists _; isplitr; · ipureintro; exact harg23.read_unread _
    iexact HS4
  isplitl [HS5]
  · iexists _; isplitr; · ipureintro; exact harg24.read_unread _
    iexact HS5
  isplitl [HS6]; · iapply (any_owns (F := F) (c : Thread nD τ) arg25 _) $$ HS6
  isplitl [HS7]; · iapply (any_owns (F := F) (c : Thread nD τ) arg26 _) $$ HS7
  isplitl [HS8]; · iapply (any_owns (F := F) (c : Thread nD τ) arg27 _) $$ HS8
  isplitl [HS9]
  · iexists _; isplitr; · ipureintro; exact harg28.read_unread _
    iexact HS9
  isplitl [HS10]
  · iexists _; isplitr; · ipureintro; exact harg29.read_unread _
    iexact HS10
  isplitl [HS11]
  · iexists _; isplitr; · ipureintro; exact harg30.read_unread _
    iexact HS11
  isplitl [HS12]
  · iexists _; isplitr; · ipureintro; exact harg31.read_unread _
    iexact HS12
  isplitl [HS13]
  · iexists _; isplitr; · ipureintro; exact harg32.read_unread _
    iexact HS13
  isplitl [HS14]
  · iexists _; isplitr; · ipureintro; exact harg33.read_unread _
    iexact HS14
  isplitl [HS15]
  · iexists _; isplitr; rotate_left 1; · iexact HS15
    ipureintro
    sl_unfold_run_names
    refine (View.read_writes_full _ _ _ _ _).trans ?_
    simp (disch := decide) only [View.ld_unit_lit', View.readCov_unit_lit', View.readCov_cons_unit_lit', View.readAt_eq_ld, Memref.IsWhole.read_unread]
    rfl
  isplitl [HS16]
  · iexists _; isplitr; rotate_left 1; · iexact HS16
    ipureintro
    sl_unfold_run_names
    refine (View.read_writes_full _ _ _ _ _).trans ?_
    simp (disch := decide) only [View.ld_unit_lit', View.readCov_unit_lit', View.readCov_cons_unit_lit', View.readAt_eq_ld, Memref.IsWhole.read_unread]
    rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  iexists _; iexact HW

end Cert.KernelIdeal.Hand

end
-- ==== Proof.Ideal.RunC.lean ====
module

public import proofs.«01_k».proof.Proof.Ideal.RunB

/-! The body's run in one case of its four conditionals. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (Pipeline.UD sig nD τ) ℕ

set_option maxHeartbeats 1600000 in
/-- THE LAST POINT: as a middle point, and the auxiliary value from the sums. -/
theorem runC (c : Dev nD) (i : grid0.Coords)
    (arg1 : Memref sig .tc .vmem S1024x1024 .f32) (harg1 : arg1.IsWhole)
    (arg2 : Memref sig .tc .vmem S1024x1024 .f32) (harg2 : arg2.IsWhole)
    (arg14 : Memref sig .tc .smem S1x1 .i32) (harg14 : arg14.IsWhole)
    (arg15 : Memref sig .tc .vmem S1024x1024 .f32) (harg15 : arg15.IsWhole)
    (arg16 : Memref sig .tc .vmem S1024x1024 .f32) (harg16 : arg16.IsWhole)
    (arg17 : Memref sig .tc .vmem S2x1x8x128 .f32) (harg17 : arg17.IsWhole)
    (arg18 : Memref sig .tc .vmem S1x1 .f32) (harg18 : arg18.IsWhole)
    (arg19 : Memref sig .tc .vmem S258x2048 .f32) (harg19 : arg19.IsWhole)
    (arg20 : Memref sig .tc .vmem S256x1024 .bf16) (harg20 : arg20.IsWhole)
    (arg21 : Memref sig .tc .vmem S256x1024 .bf16) (harg21 : arg21.IsWhole)
    (arg22 : Memref sig .tc .vmem S1x256 .f32) (harg22 : arg22.IsWhole)
    (arg23 : Memref sig .tc .vmem S1x256 .f32) (harg23 : arg23.IsWhole)
    (arg24 : Memref sig .tc .vmem S1x256 .f32) (harg24 : arg24.IsWhole)
    (arg25 : Memref sig .tc .vmem S3x256x4 .f32) (harg25 : arg25.IsWhole)
    (arg26 : Memref sig .tc .vmem S4x256x32 .f32) (harg26 : arg26.IsWhole)
    (arg27 : Memref sig .tc .vmem S4x32 .f32) (harg27 : arg27.IsWhole)
    (arg28 : Memref sig .tc .vmem S256x132 .bf16) (harg28 : arg28.IsWhole)
    (arg29 : Memref sig .tc .vmem S1x132 .f32) (harg29 : arg29.IsWhole)
    (arg30 : Memref sig .tc .vmem S4x128 .bf16) (harg30 : arg30.IsWhole)
    (arg31 : Memref sig .tc .vmem S128x256 .f32) (harg31 : arg31.IsWhole)
    (arg32 : Memref sig .tc .vmem S4x256 .f32) (harg32 : arg32.IsWhole)
    (arg33 : Memref sig .tc .vmem S6x1024 .f32) (harg33 : arg33.IsWhole)
    (arg35 : Memref sig .tc .vmem S1x4 .f32) (harg35 : arg35.IsWhole)
    (arg36 : Memref sig .tc .vmem S1x4 .f32) (harg36 : arg36.IsWhole)
    (hc0 : ¬cond0_0 i) (hc1 : ¬cond0_1 i) (hc2 : cond0_2 i) (hc3 : cond0_3 i)
    (x0 x1 : Vec F S1024x1024 .f32) (x2 : Vec F S1x1 .i32) (o : Ops F) (k : Carry F) (im lo : Vec F S1x4 .f32)
    (k0_hw1 : k0_chk1 i (arg14.view.readAt (Elt F) (Rect.unit (s := S1x1) ![0, 0] S1x1.size inb_S1x1_S1x1_0_0).toLoadRect (harg14.unread x2) (Shape.Idx.first (numel1_S1x1.symm ▸ Nat.one_pos))))
    (W : Waits sig Unit) (K : PUnit → sProp 𝕄) :
    iprop(
owns (c : Thread nD τ) arg1 fullShare x0
      ∗ owns (c : Thread nD τ) arg2 fullShare x1
      ∗ owns (c : Thread nD τ) arg14 fullShare x2
      ∗ (∃ d, owns (c : Thread nD τ) arg15 fullShare d)
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ owns (c : Thread nD τ) arg20 fullShare k.wx
      ∗ owns (c : Thread nD τ) arg21 fullShare k.wt
      ∗ owns (c : Thread nD τ) arg22 fullShare k.c2
      ∗ owns (c : Thread nD τ) arg23 fullShare k.g2
      ∗ owns (c : Thread nD τ) arg24 fullShare k.b2
      ∗ (∃ d, owns (c : Thread nD τ) arg25 fullShare d)
      ∗ (∃ d, owns (c : Thread nD τ) arg26 fullShare d)
      ∗ (∃ d, owns (c : Thread nD τ) arg27 fullShare d)
      ∗ owns (c : Thread nD τ) arg28 fullShare k.w1
      ∗ owns (c : Thread nD τ) arg29 fullShare k.b1
      ∗ owns (c : Thread nD τ) arg30 fullShare k.sel
      ∗ owns (c : Thread nD τ) arg31 fullShare k.w2
      ∗ owns (c : Thread nD τ) arg32 fullShare k.be2
      ∗ owns (c : Thread nD τ) arg33 fullShare k.ms
      ∗ owns (c : Thread nD τ) arg35 fullShare im
      ∗ owns (c : Thread nD τ) arg36 fullShare lo
      ∗ semVal ((c : Thread nD τ), SemLoc.dma 12) 0
      ∗ semVal ((c : Thread nD τ), SemLoc.dma 13) 0
      ∗ semVal ((c : Thread nD τ), SemLoc.dma 14) 0
      ∗ semVal ((c : Thread nD τ), SemLoc.dma 15) 0
      ∗ semVal ((c : Thread nD τ), SemLoc.dma 16) 0
      ∗ semVal ((c : Thread nD τ), SemLoc.dma 17) 0
      ∗ semVal ((c : Thread nD τ), SemLoc.dma 18) 0
      ∗ semVal ((c : Thread nD τ), SemLoc.dma 19) 0
      ∗ semVal ((c : Thread nD τ), SemLoc.dma 20) 0
      ∗ semVal ((c : Thread nD τ), SemLoc.dma 21) 0
      ∗ semVal ((c : Thread nD τ), SemLoc.dma 22) 0
      ∗ hbPt0 c hbM0_0 (o.wred)
      ∗ hbPt0 c hbM0_1 (o.g1)
      ∗ hbPt0 c hbM0_2 (o.b1)
      ∗ hbPt0 c hbM0_3 (o.g2)
      ∗ hbPt0 c hbM0_4 (o.b2)
      ∗ hbPt0 c hbM0_5 (o.wg)
      ∗ hbPt0 c hbM0_6 (o.we1)
      ∗ hbPt0 c hbM0_7 (o.be1)
      ∗ hbPt0 c hbM0_8 (o.w2)
      ∗ hbPt0 c hbM0_9 (o.be2)
      ∗ hbPt0 c hbM0_10 (o.ms)
      ∗ owes (c : Thread nD τ) 0 W
      ∗ (iprop(owns (c : Thread nD τ) arg1 fullShare x0
        ∗ owns (c : Thread nD τ) arg2 fullShare x1
        ∗ owns (c : Thread nD τ) arg14 fullShare x2
        ∗ owns (c : Thread nD τ) arg15 fullShare (outX x0 x1 k (arg14.view.readAt (Elt F) (Rect.unit (s := S1x1) ![0, 0] S1x1.size inb_S1x1_S1x1_0_0).toLoadRect (harg14.unread x2) (Shape.Idx.first (numel1_S1x1.symm ▸ Nat.one_pos))) k0_hw1.2.1)
        ∗ owns (c : Thread nD τ) arg16 fullShare (outT x0 x1 k (arg14.view.readAt (Elt F) (Rect.unit (s := S1x1) ![0, 0] S1x1.size inb_S1x1_S1x1_0_0).toLoadRect (harg14.unread x2) (Shape.Idx.first (numel1_S1x1.symm ▸ Nat.one_pos))) k0_hw1.2.2)
        ∗ owns (c : Thread nD τ) arg17 fullShare (outP x0 x1 k)
        ∗ owns (c : Thread nD τ) arg18 fullShare (k0_pay10 (k0_pay8 (gts x0 x1 k) im) (k0_pay9 (gts x0 x1 k) lo))
        ∗ (∃ d, owns (c : Thread nD τ) arg19 fullShare d)
        ∗ owns (c : Thread nD τ) arg20 fullShare k.wx
        ∗ owns (c : Thread nD τ) arg21 fullShare k.wt
        ∗ owns (c : Thread nD τ) arg22 fullShare k.c2
        ∗ owns (c : Thread nD τ) arg23 fullShare k.g2
        ∗ owns (c : Thread nD τ) arg24 fullShare k.b2
        ∗ (∃ d, owns (c : Thread nD τ) arg25 fullShare d)
        ∗ (∃ d, owns (c : Thread nD τ) arg26 fullShare d)
        ∗ (∃ d, owns (c : Thread nD τ) arg27 fullShare d)
        ∗ owns (c : Thread nD τ) arg28 fullShare k.w1
        ∗ owns (c : Thread nD τ) arg29 fullShare k.b1
        ∗ owns (c : Thread nD τ) arg30 fullShare k.sel
        ∗ owns (c : Thread nD τ) arg31 fullShare k.w2
        ∗ owns (c : Thread nD τ) arg32 fullShare k.be2
        ∗ owns (c : Thread nD τ) arg33 fullShare k.ms
        ∗ owns (c : Thread nD τ) arg35 fullShare (k0_pay8 (gts x0 x1 k) im)
        ∗ owns (c : Thread nD τ) arg36 fullShare (k0_pay9 (gts x0 x1 k) lo)
        ∗ semVal ((c : Thread nD τ), SemLoc.dma 12) 0
        ∗ semVal ((c : Thread nD τ), SemLoc.dma 13) 0
        ∗ semVal ((c : Thread nD τ), SemLoc.dma 14) 0
        ∗ semVal ((c : Thread nD τ), SemLoc.dma 15) 0
        ∗ semVal ((c : Thread nD τ), SemLoc.dma 16) 0
        ∗ semVal ((c : Thread nD τ), SemLoc.dma 17) 0
        ∗ semVal ((c : Thread nD τ), SemLoc.dma 18) 0
        ∗ semVal ((c : Thread nD τ), SemLoc.dma 19) 0
        ∗ semVal ((c : Thread nD τ), SemLoc.dma 20) 0
        ∗ semVal ((c : Thread nD τ), SemLoc.dma 21) 0
        ∗ semVal ((c : Thread nD τ), SemLoc.dma 22) 0
        ∗ hbPt0 c hbM0_0 (o.wred)
        ∗ hbPt0 c hbM0_1 (o.g1)
        ∗ hbPt0 c hbM0_2 (o.b1)
        ∗ hbPt0 c hbM0_3 (o.g2)
        ∗ hbPt0 c hbM0_4 (o.b2)
        ∗ hbPt0 c hbM0_5 (o.wg)
        ∗ hbPt0 c hbM0_6 (o.we1)
        ∗ hbPt0 c hbM0_7 (o.be1)
        ∗ hbPt0 c hbM0_8 (o.w2)
        ∗ hbPt0 c hbM0_9 (o.be2)
        ∗ hbPt0 c hbM0_10 (o.ms)
        ∗ (∃ W', owes (c : Thread nD τ) 0 W')) -∗ K ⟨⟩))
    ⊢ wp frame (wpE (defs₀ (F := F)) Variants.none c none) Set.univ (cc0__body i arg1 harg1 arg2 harg2 (Memref.whole main_arg4) (Memref.isWhole_whole _) (Memref.whole main_v3) (Memref.isWhole_whole _) (Memref.whole main_v4) (Memref.isWhole_whole _) (Memref.whole main_v5) (Memref.isWhole_whole _) (Memref.whole main_v6) (Memref.isWhole_whole _) (Memref.whole main_arg7) (Memref.isWhole_whole _) (Memref.whole main_arg8) (Memref.isWhole_whole _) (Memref.whole main_arg9) (Memref.isWhole_whole _) (Memref.whole main_v7) (Memref.isWhole_whole _) (Memref.whole main_arg11) (Memref.isWhole_whole _) (Memref.whole main_arg12) (Memref.isWhole_whole _) arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 cc0_scratch15 arg35 harg35 arg36 harg36) K := by
  simp only [cc0__body_eq_skeleton]; unfold cc0__body_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%dS0, %fS0, -, HS0⟩, ⟨%fS1, %hfS1, HS1⟩, ⟨%fS2, %hfS2, HS2⟩, ⟨%fS3, %hfS3, HS3⟩, ⟨%fS4, %hfS4, HS4⟩, ⟨%fS5, %hfS5, HS5⟩, ⟨%dS6, %fS6, -, HS6⟩, ⟨%dS7, %fS7, -, HS7⟩, ⟨%dS8, %fS8, -, HS8⟩, ⟨%fS9, %hfS9, HS9⟩, ⟨%fS10, %hfS10, HS10⟩, ⟨%fS11, %hfS11, HS11⟩, ⟨%fS12, %hfS12, HS12⟩, ⟨%fS13, %hfS13, HS13⟩, ⟨%fS14, %hfS14, HS14⟩, ⟨%fS15, %hfS15, HS15⟩, ⟨%fS16, %hfS16, HS16⟩, Hq0, Hq1, Hq2, Hq3, Hq4, Hq5, Hq6, Hq7, Hq8, Hq9, Hq10, Hh0, Hh1, Hh2, Hh3, Hh4, Hh5, Hh6, Hh7, Hh8, Hh9, Hh10, HW, Hk⟩
  obtain rfl := harg1.eq_unread hf0
  obtain rfl := harg2.eq_unread hf1
  obtain rfl := harg14.eq_unread hf2
  obtain rfl := harg20.eq_unread hfS1
  obtain rfl := harg21.eq_unread hfS2
  obtain rfl := harg22.eq_unread hfS3
  obtain rfl := harg23.eq_unread hfS4
  obtain rfl := harg24.eq_unread hfS5
  obtain rfl := harg28.eq_unread hfS9
  obtain rfl := harg29.eq_unread hfS10
  obtain rfl := harg30.eq_unread hfS11
  obtain rfl := harg31.eq_unread hfS12
  obtain rfl := harg32.eq_unread hfS13
  obtain rfl := harg33.eq_unread hfS14
  obtain rfl := harg35.eq_unread hfS15
  obtain rfl := harg36.eq_unread hfS16
  sl_exec (disch := first | sl_exact hc0 | sl_exact hc1 | sl_exact hc2 | sl_exact hc3 | sl_exact k0_hw1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg14.read_unread _
    iexact H2
  isplitl [H3]
  · iexists _; isplitr; rotate_left 1; · iexact H3
    ipureintro
    sl_unfold_run_names
    refine (View.read_writes_full _ _ _ _ _).trans ?_
    simp (disch := decide) only [View.ld_unit_lit', View.readCov_unit_lit', View.readCov_cons_unit_lit', View.readAt_eq_ld, Memref.IsWhole.read_unread]
    rfl
  isplitl [H4]
  · iexists _; isplitr; rotate_left 1; · iexact H4
    ipureintro
    sl_unfold_run_names
    refine (View.read_writes_full _ _ _ _ _).trans ?_
    simp (disch := decide) only [View.ld_unit_lit', View.readCov_unit_lit', View.readCov_cons_unit_lit', View.readAt_eq_ld, Memref.IsWhole.read_unread]
    rfl
  isplitl [H5]
  · iexists _; isplitr; rotate_left 1; · iexact H5
    ipureintro
    sl_unfold_run_names
    refine (View.read_writes_eq_canon _ _ _ (cover_P _ _)).trans ?_
    simp (disch := decide) only [View.ld_unit_lit', View.readCov_unit_lit', View.readCov_cons_unit_lit', View.readAt_eq_ld, Memref.IsWhole.read_unread]
    rfl
  isplitl [H6]
  · iexists _; isplitr; rotate_left 1; · iexact H6
    ipureintro
    sl_unfold_run_names
    refine (View.read_writes_full _ _ _ _ _).trans ?_
    simp (disch := decide) only [View.ld_unit_lit', View.readCov_unit_lit', View.readCov_cons_unit_lit', View.readAt_eq_ld, Memref.IsWhole.read_unread]
    rfl
  isplitl [HS0]; · iapply (any_owns (F := F) (c : Thread nD τ) arg19 _) $$ HS0
  isplitl [HS1]
  · iexists _; isplitr; · ipureintro; exact harg20.read_unread _
    iexact HS1
  isplitl [HS2]
  · iexists _; isplitr; · ipureintro; exact harg21.read_unread _
    iexact HS2
  isplitl [HS3]
  · iexists _; isplitr; · ipureintro; exact harg22.read_unread _
    iexact HS3
  isplitl [HS4]
  · iexists _; isplitr; · ipureintro; exact harg23.read_unread _
    iexact HS4
  isplitl [HS5]
  · iexists _; isplitr; · ipureintro; exact harg24.read_unread _
    iexact HS5
  isplitl [HS6]; · iapply (any_owns (F := F) (c : Thread nD τ) arg25 _) $$ HS6
  isplitl [HS7]; · iapply (any_owns (F := F) (c : Thread nD τ) arg26 _) $$ HS7
  isplitl [HS8]; · iapply (any_owns (F := F) (c : Thread nD τ) arg27 _) $$ HS8
  isplitl [HS9]
  · iexists _; isplitr; · ipureintro; exact harg28.read_unread _
    iexact HS9
  isplitl [HS10]
  · iexists _; isplitr; · ipureintro; exact harg29.read_unread _
    iexact HS10
  isplitl [HS11]
  · iexists _; isplitr; · ipureintro; exact harg30.read_unread _
    iexact HS11
  isplitl [HS12]
  · iexists _; isplitr; · ipureintro; exact harg31.read_unread _
    iexact HS12
  isplitl [HS13]
  · iexists _; isplitr; · ipureintro; exact harg32.read_unread _
    iexact HS13
  isplitl [HS14]
  · iexists _; isplitr; · ipureintro; exact harg33.read_unread _
    iexact HS14
  isplitl [HS15]
  · iexists _; isplitr; rotate_left 1; · iexact HS15
    ipureintro
    sl_unfold_run_names
    refine (View.read_writes_full _ _ _ _ _).trans ?_
    simp (disch := decide) only [View.ld_unit_lit', View.readCov_unit_lit', View.readCov_cons_unit_lit', View.readAt_eq_ld, Memref.IsWhole.read_unread]
    rfl
  isplitl [HS16]
  · iexists _; isplitr; rotate_left 1; · iexact HS16
    ipureintro
    sl_unfold_run_names
    refine (View.read_writes_full _ _ _ _ _).trans ?_
    simp (disch := decide) only [View.ld_unit_lit', View.readCov_unit_lit', View.readCov_cons_unit_lit', View.readAt_eq_ld, Memref.IsWhole.read_unread]
    rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  iexists _; iexact HW

end Cert.KernelIdeal.Hand

end
-- ==== Proof.Ideal.Frame.lean ====
module

public import proofs.«01_k».proof.Proof.Ideal.RunC
public import Idealize.ShloMosaic.Lib.Claim

/-! The launch: what every buffer holds after each grid point, the body's triple at each point from the
    three runs, and the frame of the whole program. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]
variable (m : (ℓ : Loc nD τ sig) → Buf (Elt F) ℓ) (ρ : Dev nD → PrngReg)

local notation "𝕄" => MT nD τ sig Unit (Elt F) ℕ (Pipeline.UD sig nD τ) ℕ

/-- The HBM operands as the region finds them. -/
def opsOf (c : Dev nD) : Ops F where
  wred := V m c main_arg4
  g1 := V m c main_v3
  b1 := V m c main_v4
  g2 := V m c main_v5
  b2 := V m c main_v6
  wg := V m c main_arg7
  we1 := V m c main_arg8
  be1 := V m c main_arg9
  w2 := V m c main_v7
  be2 := V m c main_arg11
  ms := V m c main_arg12

/-- The task index, as the body reads it at point `t`. -/
abbrev tk (c : Dev nD) (t : Fin cfg0.N) : BitVec 32 :=
  (ms0_2 t).view.readAt (Elt F) (Rect.unit (s := S1x1) ![0, 0] S1x1.size inb_S1x1_S1x1_0_0).toLoadRect ((hs0_2 t).unread (iblk m c 2 t)) (Shape.Idx.first (numel1_S1x1.symm ▸ Nat.one_pos))

/-- The first grid point. -/
abbrev t00 : Fin cfg0.N := ⟨0, by rw [show cfg0.N = 8 from N_0]; decide⟩

/-- What the first point leaves in the carried scratch. -/
def kc (hH : Hyps m) (c : Dev nD) : Carry F :=
  prep (opsOf m c) (tk m c t00) ((Hyps.c0 hH c t00).1 ((hcond0_0 t00).mpr rfl))

/-- The gates of the rows of point `t`. -/
def gAt (hH : Hyps m) (c : Dev nD) (t : Fin cfg0.N) : FVec F S1024x4 .f32 := gts (iblk m c 0 t) (iblk m c 1 t) (kc m hH c)

/-- The sums of the gates, and of their signs, over the rows up to point `n`. -/
def acc (hH : Hyps m) (c : Dev nD) : (n : ℕ) → n < cfg0.N → Vec F S1x4 .f32 × Vec F S1x4 .f32
  | 0, h => (k0_pay6 (gAt m hH c ⟨0, h⟩), k0_pay7 (gAt m hH c ⟨0, h⟩))
  | n + 1, h => (k0_pay8 (gAt m hH c ⟨n + 1, h⟩) (acc hH c n (Nat.lt_of_succ_lt h)).1,
      k0_pay9 (gAt m hH c ⟨n + 1, h⟩) (acc hH c n (Nat.lt_of_succ_lt h)).2)

/-- The running sums at the first point. -/
theorem acc_zero (hH : Hyps m) (c : Dev nD) :
    acc m hH c t00.val t00.isLt = (k0_pay6 (gAt m hH c t00), k0_pay7 (gAt m hH c t00)) := rfl

/-- The running sums at a later point. -/
theorem acc_pos (hH : Hyps m) (c : Dev nD) (t : Fin cfg0.N) (h : t.val ≠ 0) :
    acc m hH c t.val t.isLt = (k0_pay8 (gAt m hH c t) (acc m hH c (t.val - 1) (by omega)).1,
      k0_pay9 (gAt m hH c t) (acc m hH c (t.val - 1) (by omega)).2) := by
  obtain ⟨n, hn⟩ := t
  cases n with
  | zero => exact absurd rfl h
  | succ n => rfl

/-- The scratch, the generator's register, the copies' cells and the operands between two points. -/
def PhiAt (c : Dev nD) (k : Carry F) (im lo : Vec F S1x4 .f32) : sProp 𝕄 :=
  iprop(iprop((∃ d, owns (c : Thread nD τ) scM0_0 fullShare d)
      ∗ owns (c : Thread nD τ) scM0_1 fullShare k.wx
      ∗ owns (c : Thread nD τ) scM0_2 fullShare k.wt
      ∗ owns (c : Thread nD τ) scM0_3 fullShare k.c2
      ∗ owns (c : Thread nD τ) scM0_4 fullShare k.g2
      ∗ owns (c : Thread nD τ) scM0_5 fullShare k.b2
      ∗ (∃ d, owns (c : Thread nD τ) scM0_6 fullShare d)
      ∗ (∃ d, owns (c : Thread nD τ) scM0_7 fullShare d)
      ∗ (∃ d, owns (c : Thread nD τ) scM0_8 fullShare d)
      ∗ owns (c : Thread nD τ) scM0_9 fullShare k.w1
      ∗ owns (c : Thread nD τ) scM0_10 fullShare k.b1
      ∗ owns (c : Thread nD τ) scM0_11 fullShare k.sel
      ∗ owns (c : Thread nD τ) scM0_12 fullShare k.w2
      ∗ owns (c : Thread nD τ) scM0_13 fullShare k.be2
      ∗ owns (c : Thread nD τ) scM0_14 fullShare k.ms
      ∗ owns (c : Thread nD τ) scM0_15 fullShare im
      ∗ owns (c : Thread nD τ) scM0_16 fullShare lo)
    ∗ (∃ r, prngReg c r)
    ∗ iprop(semVal ((c : Thread nD τ), SemLoc.dma 12) 0
      ∗ semVal ((c : Thread nD τ), SemLoc.dma 13) 0
      ∗ semVal ((c : Thread nD τ), SemLoc.dma 14) 0
      ∗ semVal ((c : Thread nD τ), SemLoc.dma 15) 0
      ∗ semVal ((c : Thread nD τ), SemLoc.dma 16) 0
      ∗ semVal ((c : Thread nD τ), SemLoc.dma 17) 0
      ∗ semVal ((c : Thread nD τ), SemLoc.dma 18) 0
      ∗ semVal ((c : Thread nD τ), SemLoc.dma 19) 0
      ∗ semVal ((c : Thread nD τ), SemLoc.dma 20) 0
      ∗ semVal ((c : Thread nD τ), SemLoc.dma 21) 0
      ∗ semVal ((c : Thread nD τ), SemLoc.dma 22) 0)
    ∗ iprop(hbPt0 c hbM0_0 (V m c main_arg4)
      ∗ hbPt0 c hbM0_1 (V m c main_v3)
      ∗ hbPt0 c hbM0_2 (V m c main_v4)
      ∗ hbPt0 c hbM0_3 (V m c main_v5)
      ∗ hbPt0 c hbM0_4 (V m c main_v6)
      ∗ hbPt0 c hbM0_5 (V m c main_arg7)
      ∗ hbPt0 c hbM0_6 (V m c main_arg8)
      ∗ hbPt0 c hbM0_7 (V m c main_arg9)
      ∗ hbPt0 c hbM0_8 (V m c main_v7)
      ∗ hbPt0 c hbM0_9 (V m c main_arg11)
      ∗ hbPt0 c hbM0_10 (V m c main_arg12)))

/-- The invariant before point `n`. -/
def PhiS (hH : Hyps m) (c : Dev nD) : (n : ℕ) → n ≤ cfg0.N → sProp 𝕄
  | 0, _ => Pipeline.ΦD osem0 spec0 H0 (V m) c
  | n + 1, hn => PhiAt m c (kc m hH c) (acc m hH c n hn).1 (acc m hH c n hn).2

/-- The invariant before the first point. -/
theorem PhiS_zero (hH : Hyps m) (c : Dev nD) (n : ℕ) (h : n ≤ cfg0.N) (hz : n = 0) :
    PhiS m hH c n h = Pipeline.ΦD osem0 spec0 H0 (V m) c := by
  subst hz; rfl

/-- The invariant before a later point. -/
theorem PhiS_pos (hH : Hyps m) (c : Dev nD) (n : ℕ) (h : n ≤ cfg0.N) (hz : n ≠ 0) :
    PhiS m hH c n h = PhiAt m c (kc m hH c) (acc m hH c (n - 1) (by omega)).1 (acc m hH c (n - 1) (by omega)).2 := by
  cases n with
  | zero => exact absurd rfl hz
  | succ n => rfl

/-- The pipeline's proof data: each input's block in place, each output at its point's value. -/
def dats (hH : Hyps m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outX (iblk m c 0 t) (iblk m c 1 t) (kc m hH c) (tk m c t) (Hyps.c0 hH c t).2.1
    | ⟨4, _⟩ => outT (iblk m c 0 t) (iblk m c 1 t) (kc m hH c) (tk m c t) (Hyps.c0 hH c t).2.2
    | ⟨5, _⟩ => outP (iblk m c 0 t) (iblk m c 1 t) (kc m hH c)
    | ⟨6, _⟩ => k0_pay10 (acc m hH c t.val t.isLt).1 (acc m hH c t.val t.isLt).2
  Φ t := PhiS m hH c t.val (Nat.le_of_lt_succ t.isLt)
  q _ := fullShare
  owed _ := 0

/-- A window's array as the region finds it. -/
theorem A_eq (hH : Hyps m) (c : Dev nD) (w : Fin cfg0.W) : (dats m hH 0 c).A w = V m c (Pipeline.arrRef spec0 w) := by
  dsimp only [dats]

/-- The invariant before point `t`. -/
theorem PhiS_castSucc (hH : Hyps m) (c : Dev nD) (t : Fin cfg0.N) :
    (dats m hH 0 c).Φ t.castSucc = PhiS m hH c t.val (Nat.le_of_lt t.isLt) := by
  dsimp only [dats]; exact Pipeline.Dat.Φ_castSucc (PhiS m hH c) t

/-- What window 0 holds after a point. -/
theorem after0_0 (hH : Hyps m) (c : Dev nD) (t : Fin cfg0.N) :
    (dats m hH 0 c).after 0 t = iblk m c 0 t := by dsimp only [dats]
/-- What window 1 holds after a point. -/
theorem after0_1 (hH : Hyps m) (c : Dev nD) (t : Fin cfg0.N) :
    (dats m hH 0 c).after 1 t = iblk m c 1 t := by dsimp only [dats]
/-- What window 2 holds after a point. -/
theorem after0_2 (hH : Hyps m) (c : Dev nD) (t : Fin cfg0.N) :
    (dats m hH 0 c).after 2 t = iblk m c 2 t := by dsimp only [dats]
/-- What window 3 holds after a point. -/
theorem after0_3 (hH : Hyps m) (c : Dev nD) (t : Fin cfg0.N) :
    (dats m hH 0 c).after 3 t = outX (iblk m c 0 t) (iblk m c 1 t) (kc m hH c) (tk m c t) (Hyps.c0 hH c t).2.1 := by dsimp only [dats]
/-- What window 4 holds after a point. -/
theorem after0_4 (hH : Hyps m) (c : Dev nD) (t : Fin cfg0.N) :
    (dats m hH 0 c).after 4 t = outT (iblk m c 0 t) (iblk m c 1 t) (kc m hH c) (tk m c t) (Hyps.c0 hH c t).2.2 := by dsimp only [dats]
/-- What window 5 holds after a point. -/
theorem after0_5 (hH : Hyps m) (c : Dev nD) (t : Fin cfg0.N) :
    (dats m hH 0 c).after 5 t = outP (iblk m c 0 t) (iblk m c 1 t) (kc m hH c) := by dsimp only [dats]
/-- What window 6 holds after a point. -/
theorem after0_6 (hH : Hyps m) (c : Dev nD) (t : Fin cfg0.N) :
    (dats m hH 0 c).after 6 t = k0_pay10 (acc m hH c t.val t.isLt).1 (acc m hH c t.val t.isLt).2 := by dsimp only [dats]

/-- What window 0 holds before a point. -/
theorem before0_0 (hH : Hyps m) (c : Dev nD) (t : Fin cfg0.N) (d) : (dats m hH 0 c).before 0 t d = iblk m c 0 t :=
  before0_0_of m (dats m hH 0 c) (A_eq m hH c 0) (after0_0 m hH c) t d
/-- What window 1 holds before a point. -/
theorem before0_1 (hH : Hyps m) (c : Dev nD) (t : Fin cfg0.N) (d) : (dats m hH 0 c).before 1 t d = iblk m c 1 t :=
  before0_1_of m (dats m hH 0 c) (A_eq m hH c 1) (after0_1 m hH c) t d
/-- What window 2 holds before a point. -/
theorem before0_2 (hH : Hyps m) (c : Dev nD) (t : Fin cfg0.N) (d) : (dats m hH 0 c).before 2 t d = iblk m c 2 t :=
  before0_2_of m (dats m hH 0 c) (A_eq m hH c 2) (after0_2 m hH c) t d

/-- What the body leaves in window 0. -/
theorem leaves_0 (hH : Hyps m) (c : Dev nD) (t : Fin cfg0.N) :
    (dats m hH 0 c).leavesExact 0 t = owns (c : Thread nD τ) (ms0_0 t) fullShare (iblk m c 0 t) := by
  unfold Dat.leavesExact; rw [liveAt0_0 t, after0_0]
/-- What the body leaves in window 1. -/
theorem leaves_1 (hH : Hyps m) (c : Dev nD) (t : Fin cfg0.N) :
    (dats m hH 0 c).leavesExact 1 t = owns (c : Thread nD τ) (ms0_1 t) fullShare (iblk m c 1 t) := by
  unfold Dat.leavesExact; rw [liveAt0_1 t, after0_1]
/-- What the body leaves in window 2. -/
theorem leaves_2 (hH : Hyps m) (c : Dev nD) (t : Fin cfg0.N) :
    (dats m hH 0 c).leavesExact 2 t = owns (c : Thread nD τ) (ms0_2 t) fullShare (iblk m c 2 t) := by
  unfold Dat.leavesExact; rw [liveAt0_2 t, after0_2]
/-- What the body leaves in window 3. -/
theorem leaves_3 (hH : Hyps m) (c : Dev nD) (t : Fin cfg0.N) :
    (dats m hH 0 c).leavesExact 3 t = owns (c : Thread nD τ) (ms0_3 t) fullShare (outX (iblk m c 0 t) (iblk m c 1 t) (kc m hH c) (tk m c t) (Hyps.c0 hH c t).2.1) := by
  unfold Dat.leavesExact; rw [liveAt0_3 t, after0_3]
/-- What the body leaves in window 4. -/
theorem leaves_4 (hH : Hyps m) (c : Dev nD) (t : Fin cfg0.N) :
    (dats m hH 0 c).leavesExact 4 t = owns (c : Thread nD τ) (ms0_4 t) fullShare (outT (iblk m c 0 t) (iblk m c 1 t) (kc m hH c) (tk m c t) (Hyps.c0 hH c t).2.2) := by
  unfold Dat.leavesExact; rw [liveAt0_4 t, after0_4]
/-- What the body leaves in window 5. -/
theorem leaves_5 (hH : Hyps m) (c : Dev nD) (t : Fin cfg0.N) :
    (dats m hH 0 c).leavesExact 5 t = owns (c : Thread nD τ) (ms0_5 t) fullShare (outP (iblk m c 0 t) (iblk m c 1 t) (kc m hH c)) := by
  unfold Dat.leavesExact; rw [liveAt0_5 t, after0_5]

/-- What the body finds at point `t`. -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d)))

/-- What the body leaves at point `t`. -/
def bodyPost (hH : Hyps m) (c : Dev nD) (t : Fin cfg0.N) : sProp 𝕄 :=
  iprop((dats m hH 0 c).Φ t.succ ∗ (dats m hH 0 c).owesAt () t.succ
    ∗ (dats m hH 0 c).leavesExact 0 t
    ∗ (dats m hH 0 c).leavesExact 1 t
    ∗ (dats m hH 0 c).leavesExact 2 t
    ∗ (dats m hH 0 c).leavesExact 3 t
    ∗ (dats m hH 0 c).leavesExact 4 t
    ∗ (dats m hH 0 c).leavesExact 5 t
    ∗ (dats m hH 0 c).leavesExact 6 t)

set_option maxHeartbeats 3200000 in
/-- The body's triple at a point of case A. -/
theorem sound_A (hH : Hyps m) (c : Dev nD) (t : Fin cfg0.N) (hz : t.val = 0) :
    bodyPre m hH c t ⊢ wp frame (wpE (defs₀ (F := F)) Variants.none c none) Set.univ (bodyAt0 t) (fun _ => bodyPost m hH c t) := by
  have hN : t.val < 8 := lt_of_lt_of_eq t.isLt (show cfg0.N = 8 from N_0)
  have h0 : t.val % 8 = 0 := by omega
  have h2 : ¬1 ≤ t.val := by omega
  have h3 : ¬t.val % 8 = 7 := by omega
  unfold bodyPre bodyPost bodyAt0
  simp only [before0_0, before0_1, before0_2]
  rw [show (dats m hH 0 c).Φ t.succ = PhiAt m c (kc m hH c) (acc m hH c t.val t.isLt).1 (acc m hH c t.val t.isLt).2 from rfl]
  unfold Dat.owesAt Pipeline.owesWithin
  rw [show (dats m hH 0 c).owed t.castSucc = 0 from rfl, show (dats m hH 0 c).owed t.succ = 0 from rfl]
  rw [leaves_0, leaves_1, leaves_2, leaves_3, leaves_4, leaves_5]
  rw [Dat.leavesExact_idle (dats m hH 0 c) 6 t (idleAt0_6_A t ((hcond0_0 t).mpr h0) ((hcond0_1 t).mpr h0) (fun h => h2 ((hcond0_2 t).mp h)) (fun h => h3 ((hcond0_3 t).mp h))) (noFlush0_6_A t ((hcond0_0 t).mpr h0) ((hcond0_1 t).mpr h0) (fun h => h2 ((hcond0_2 t).mp h)) (fun h => h3 ((hcond0_3 t).mp h)))]
  rw [PhiS_castSucc m hH c t, PhiS_zero m hH c _ _ hz, PhiD0_eq]
  obtain rfl : t = t00 := Fin.ext hz
  rw [acc_zero]
  unfold PhiAt
  iintro ⟨⟨⟨HS0, HS1, HS2, HS3, HS4, HS5, HS6, HS7, HS8, HS9, HS10, HS11, HS12, HS13, HS14, HS15, HS16⟩, Hg, ⟨Hq0, Hq1, Hq2, Hq3, Hq4, Hq5, Hq6, Hq7, Hq8, Hq9, Hq10⟩, ⟨Hh0, Hh1, Hh2, Hh3, Hh4, Hh5, Hh6, Hh7, Hh8, Hh9, Hh10⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (runA c (grid0.coords t00) _ _ _ _ _ _ _ _ _ _ _ _ _ _ _ _ _ _ _ _ _ _ _ _ _ _ _ _ _ _ _ _ _ _ _ _ _ _ _ _ _ _ _ _ _ _ _ _ ((hcond0_0 t00).mpr h0) ((hcond0_1 t00).mpr h0) (fun h => h2 ((hcond0_2 t00).mp h)) (fun h => h3 ((hcond0_3 t00).mp h)) (iblk m c 0 t00) (iblk m c 1 t00) (iblk m c 2 t00) (opsOf m c) _ (Hyps.c0 hH c t00) W _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [HW]; · iexact HW
  iintro ⟨H0, H1, H2, H3, H4, H5, H6, HS0, HS1, HS2, HS3, HS4, HS5, HS6, HS7, HS8, HS9, HS10, HS11, HS12, HS13, HS14, HS15, HS16, Hq0, Hq1, Hq2, Hq3, Hq4, Hq5, Hq6, Hq7, Hq8, Hq9, Hq10, Hh0, Hh1, Hh2, Hh3, Hh4, Hh5, Hh6, Hh7, Hh8, Hh9, Hh10, ⟨%W', HW'⟩⟩
  isplitl [HS0 HS1 HS2 HS3 HS4 HS5 HS6 HS7 HS8 HS9 HS10 HS11 HS12 HS13 HS14 HS15 HS16 Hg Hq0 Hq1 Hq2 Hq3 Hq4 Hq5 Hq6 Hq7 Hq8 Hq9 Hq10 Hh0 Hh1 Hh2 Hh3 Hh4 Hh5 Hh6 Hh7 Hh8 Hh9 Hh10]
  · isplitl [HS0 HS1 HS2 HS3 HS4 HS5 HS6 HS7 HS8 HS9 HS10 HS11 HS12 HS13 HS14 HS15 HS16]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      iexact HS16
    isplitl [Hg]; · iexact Hg
    isplitl [Hq0 Hq1 Hq2 Hq3 Hq4 Hq5 Hq6 Hq7 Hq8 Hq9 Hq10]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      iexact Hq10
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    iexact Hh10
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 3200000 in
/-- The body's triple at a point of case B. -/
theorem sound_B (hH : Hyps m) (c : Dev nD) (t : Fin cfg0.N) (h2 : 1 ≤ t.val) (h3 : ¬t.val % 8 = 7) :
    bodyPre m hH c t ⊢ wp frame (wpE (defs₀ (F := F)) Variants.none c none) Set.univ (bodyAt0 t) (fun _ => bodyPost m hH c t) := by
  have hN : t.val < 8 := lt_of_lt_of_eq t.isLt (show cfg0.N = 8 from N_0)
  have h0 : ¬t.val % 8 = 0 := by omega
  unfold bodyPre bodyPost bodyAt0
  simp only [before0_0, before0_1, before0_2]
  rw [show (dats m hH 0 c).Φ t.succ = PhiAt m c (kc m hH c) (acc m hH c t.val t.isLt).1 (acc m hH c t.val t.isLt).2 from rfl]
  unfold Dat.owesAt Pipeline.owesWithin
  rw [show (dats m hH 0 c).owed t.castSucc = 0 from rfl, show (dats m hH 0 c).owed t.succ = 0 from rfl]
  rw [leaves_0, leaves_1, leaves_2, leaves_3, leaves_4, leaves_5]
  rw [Dat.leavesExact_idle (dats m hH 0 c) 6 t (idleAt0_6_B t (fun h => h0 ((hcond0_0 t).mp h)) (fun h => h0 ((hcond0_1 t).mp h)) ((hcond0_2 t).mpr h2) (fun h => h3 ((hcond0_3 t).mp h))) (noFlush0_6_B t (fun h => h0 ((hcond0_0 t).mp h)) (fun h => h0 ((hcond0_1 t).mp h)) ((hcond0_2 t).mpr h2) (fun h => h3 ((hcond0_3 t).mp h)))]
  rw [PhiS_castSucc m hH c t, PhiS_pos m hH c _ _ (by omega), acc_pos m hH c t (by omega)]
  unfold PhiAt
  iintro ⟨⟨⟨HS0, HS1, HS2, HS3, HS4, HS5, HS6, HS7, HS8, HS9, HS10, HS11, HS12, HS13, HS14, HS15, HS16⟩, Hg, ⟨Hq0, Hq1, Hq2, Hq3, Hq4, Hq5, Hq6, Hq7, Hq8, Hq9, Hq10⟩, ⟨Hh0, Hh1, Hh2, Hh3, Hh4, Hh5, Hh6, Hh7, Hh8, Hh9, Hh10⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (runB c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h0 ((hcond0_1 t).mp h)) ((hcond0_2 t).mpr h2) (fun h => h3 ((hcond0_3 t).mp h)) (iblk m c 0 t) (iblk m c 1 t) (iblk m c 2 t) (opsOf m c) (kc m hH c) (acc m hH c (t.val - 1) (by omega)).1 (acc m hH c (t.val - 1) (by omega)).2 _ (Hyps.c0 hH c t) W _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [HW]; · iexact HW
  iintro ⟨H0, H1, H2, H3, H4, H5, H6, HS0, HS1, HS2, HS3, HS4, HS5, HS6, HS7, HS8, HS9, HS10, HS11, HS12, HS13, HS14, HS15, HS16, Hq0, Hq1, Hq2, Hq3, Hq4, Hq5, Hq6, Hq7, Hq8, Hq9, Hq10, Hh0, Hh1, Hh2, Hh3, Hh4, Hh5, Hh6, Hh7, Hh8, Hh9, Hh10, ⟨%W', HW'⟩⟩
  isplitl [HS0 HS1 HS2 HS3 HS4 HS5 HS6 HS7 HS8 HS9 HS10 HS11 HS12 HS13 HS14 HS15 HS16 Hg Hq0 Hq1 Hq2 Hq3 Hq4 Hq5 Hq6 Hq7 Hq8 Hq9 Hq10 Hh0 Hh1 Hh2 Hh3 Hh4 Hh5 Hh6 Hh7 Hh8 Hh9 Hh10]
  · isplitl [HS0 HS1 HS2 HS3 HS4 HS5 HS6 HS7 HS8 HS9 HS10 HS11 HS12 HS13 HS14 HS15 HS16]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      iexact HS16
    isplitl [Hg]; · iexact Hg
    isplitl [Hq0 Hq1 Hq2 Hq3 Hq4 Hq5 Hq6 Hq7 Hq8 Hq9 Hq10]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      iexact Hq10
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    iexact Hh10
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 3200000 in
/-- The body's triple at a point of case C. -/
theorem sound_C (hH : Hyps m) (c : Dev nD) (t : Fin cfg0.N) (h3 : t.val % 8 = 7) :
    bodyPre m hH c t ⊢ wp frame (wpE (defs₀ (F := F)) Variants.none c none) Set.univ (bodyAt0 t) (fun _ => bodyPost m hH c t) := by
  have hN : t.val < 8 := lt_of_lt_of_eq t.isLt (show cfg0.N = 8 from N_0)
  have h0 : ¬t.val % 8 = 0 := by omega
  have h2 : 1 ≤ t.val := by omega
  unfold bodyPre bodyPost bodyAt0
  simp only [before0_0, before0_1, before0_2]
  rw [show (dats m hH 0 c).Φ t.succ = PhiAt m c (kc m hH c) (acc m hH c t.val t.isLt).1 (acc m hH c t.val t.isLt).2 from rfl]
  unfold Dat.owesAt Pipeline.owesWithin
  rw [show (dats m hH 0 c).owed t.castSucc = 0 from rfl, show (dats m hH 0 c).owed t.succ = 0 from rfl]
  rw [leaves_0, leaves_1, leaves_2, leaves_3, leaves_4, leaves_5]
  rw [show (dats m hH 0 c).leavesExact 6 t = owns (c : Thread nD τ) (ms0_6 t) fullShare ((dats m hH 0 c).after 6 t) from by
    unfold Dat.leavesExact; rw [liveAt0_6_C t (fun h => h0 ((hcond0_0 t).mp h)) (fun h => h0 ((hcond0_1 t).mp h)) ((hcond0_2 t).mpr h2) ((hcond0_3 t).mpr h3)], after0_6]
  rw [PhiS_castSucc m hH c t, PhiS_pos m hH c _ _ (by omega), acc_pos m hH c t (by omega)]
  unfold PhiAt
  iintro ⟨⟨⟨HS0, HS1, HS2, HS3, HS4, HS5, HS6, HS7, HS8, HS9, HS10, HS11, HS12, HS13, HS14, HS15, HS16⟩, Hg, ⟨Hq0, Hq1, Hq2, Hq3, Hq4, Hq5, Hq6, Hq7, Hq8, Hq9, Hq10⟩, ⟨Hh0, Hh1, Hh2, Hh3, Hh4, Hh5, Hh6, Hh7, Hh8, Hh9, Hh10⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (runC c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h0 ((hcond0_1 t).mp h)) ((hcond0_2 t).mpr h2) ((hcond0_3 t).mpr h3) (iblk m c 0 t) (iblk m c 1 t) (iblk m c 2 t) (opsOf m c) (kc m hH c) (acc m hH c (t.val - 1) (by omega)).1 (acc m hH c (t.val - 1) (by omega)).2 (Hyps.c0 hH c t) W _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [HW]; · iexact HW
  iintro ⟨H0, H1, H2, H3, H4, H5, H6, HS0, HS1, HS2, HS3, HS4, HS5, HS6, HS7, HS8, HS9, HS10, HS11, HS12, HS13, HS14, HS15, HS16, Hq0, Hq1, Hq2, Hq3, Hq4, Hq5, Hq6, Hq7, Hq8, Hq9, Hq10, Hh0, Hh1, Hh2, Hh3, Hh4, Hh5, Hh6, Hh7, Hh8, Hh9, Hh10, ⟨%W', HW'⟩⟩
  isplitl [HS0 HS1 HS2 HS3 HS4 HS5 HS6 HS7 HS8 HS9 HS10 HS11 HS12 HS13 HS14 HS15 HS16 Hg Hq0 Hq1 Hq2 Hq3 Hq4 Hq5 Hq6 Hq7 Hq8 Hq9 Hq10 Hh0 Hh1 Hh2 Hh3 Hh4 Hh5 Hh6 Hh7 Hh8 Hh9 Hh10]
  · isplitl [HS0 HS1 HS2 HS3 HS4 HS5 HS6 HS7 HS8 HS9 HS10 HS11 HS12 HS13 HS14 HS15 HS16]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      iexact HS16
    isplitl [Hg]; · iexact Hg
    isplitl [Hq0 Hq1 Hq2 Hq3 Hq4 Hq5 Hq6 Hq7 Hq8 Hq9 Hq10]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      iexact Hq10
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    iexact Hh10
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

/-- The body's triple at every point. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  by_cases hz : t.val = 0
  · exact sound_A m hH c t hz
  · by_cases h3 : t.val % 8 = 7
    · exact sound_C m hH c t h3
    · exact sound_B m hH c t (by omega) h3

/-- The body's row of the table. -/
theorem defs₀_row (t : Fin cfg0.N) :
    defs₀ (F := F) .tc cfg0.body (cfg0.bodyArgs t (cfg0.slots t)) = bodyAt0 t := by
  unfold defs₀; rw [Defs.onTc_tc]

/-- The body keeps the pipeline's promises at every point. -/
theorem body_obligation (hH : Hyps m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

/-- What the region is given establishes the invariant. -/
theorem hin (hH : Hyps m) (c : Dev nD) : Pipeline.ΦD osem0 spec0 H0 (V m) c ⊢ (dats m hH 0 c).Φ 0 := by
  rw [show (dats m hH 0 c).Φ 0 = PhiS m hH c 0 (Nat.zero_le _) from rfl, PhiS_zero m hH c 0 _ rfl]

/-- The invariant after the last point gives back what the region was given. -/
theorem hout (hH : Hyps m) (c : Dev nD) : (dats m hH 0 c).Φ (Fin.last cfg0.N) ⊢ Pipeline.ΦD osem0 spec0 H0 (V m) c := by
  rw [show (dats m hH 0 c).Φ (Fin.last cfg0.N) = PhiS m hH c (Fin.last cfg0.N).val (Nat.le_of_lt_succ (Fin.last cfg0.N).isLt) from rfl,
    PhiS_pos m hH c _ _ (by rw [Fin.val_last]; have : cfg0.N = 8 := N_0; omega), PhiD0_eq]
  unfold PhiAt
  iintro ⟨⟨HS0, HS1, HS2, HS3, HS4, HS5, HS6, HS7, HS8, HS9, HS10, HS11, HS12, HS13, HS14, HS15, HS16⟩, Hg, ⟨Hq0, Hq1, Hq2, Hq3, Hq4, Hq5, Hq6, Hq7, Hq8, Hq9, Hq10⟩, ⟨Hh0, Hh1, Hh2, Hh3, Hh4, Hh5, Hh6, Hh7, Hh8, Hh9, Hh10⟩⟩
  isplitl [HS0 HS1 HS2 HS3 HS4 HS5 HS6 HS7 HS8 HS9 HS10 HS11 HS12 HS13 HS14 HS15 HS16]
  · isplitl [HS0]; · iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexact HS6
    isplitl [HS7]; · iexact HS7
    isplitl [HS8]; · iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    isplitl [HS15]; · iexists _; iexact HS15
    iexists _; iexact HS16
  isplitl [Hg]; · iexact Hg
  isplitl [Hq0 Hq1 Hq2 Hq3 Hq4 Hq5 Hq6 Hq7 Hq8 Hq9 Hq10]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    iexact Hq10
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  iexact Hh10

set_option backward.isDefEq.respectTransparency.types false in
set_option maxHeartbeats 800000 in
/-- The launch: every array ends at what the points leave, and every counter at zero. -/
theorem run_main_quiescent (hH : Hyps m) : θ_run defs (onTc (τ := τ) (main (F := F))) (s₀ m ρ)
    (fun r => (Pipeline.FramePost cfgs (dats m hH) 0 (Pipeline.afterTail₀ cfgs (dats m hH) 0 (V0 m) [hostOps1])) r ∧ r.2.sem = fun _ => 0) :=
  Pipeline.θ_run_frame_dma_around (Q' := _) cfgs (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V₀ := V0 m) (opss := [hostOps1]) (hsub := sfx_but) (hfresh := sfx_fresh) (hkeep := sfx_keeps)
    (hmain := hmain m Variants.none) (hA := A_eq m hH) (hin := hin m hH) (hout := hout m hH)

/-- The same without the counters. -/
theorem run_main (hH : Hyps m) : θ_run defs (onTc (τ := τ) (main (F := F))) (s₀ m ρ)
    (Pipeline.FramePost cfgs (dats m hH) 0 (Pipeline.afterTail₀ cfgs (dats m hH) 0 (V0 m) [hostOps1])) :=
  (θ_run defs _ _).mono (fun _ h => h.1) (run_main_quiescent m ρ hH)

/-- The frame: the arguments end unchanged and every counter at zero. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m hH) (A_eq m hH) (run_main m ρ hH))
    ((θ_run defs _ _).mono (fun _ h => h.2) (run_main_quiescent m ρ hH))

end Cert.KernelIdeal.Hand
-- ==== Proof.Ideal.Task.lean ====
module

public import proofs.«01_k».proof.Proof.Ideal.Frame
public import Idealize.ShloMosaic.Lib.Pipeline.ValueKit
public import Idealize.ShloMosaic.Lib.Pointwise
public import Idealize.ShloMosaic.Lib.WholeRead

/-! The word that the body reads at every point is the task index, and a task index below three makes each
    offset computed from it fall inside its array. -/

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F] [Named F]
variable (m : (ℓ : Loc nD τ sig) → Buf (Elt F) ℓ)

/-- The windows' block indices. -/
theorem idx : ∀ t : Fin cfg0.N, win0_0.index t = ![t.val, 0] ∧ win0_1.index t = ![t.val, 0]
    ∧ win0_2.index t = ![0, 0] ∧ win0_3.index t = ![t.val, 0] ∧ win0_4.index t = ![t.val, 0]
    ∧ win0_5.index t = ![0, t.val, 0, 0] ∧ win0_6.index t = ![0, 0] ∧ t.val < 8 :=
  (by decide +kernel : ∀ t : Fin grid0.N, _)

/-- The entry contents of a buffer, over the host operations before the region. -/
theorem V_after (c : Dev nD) (b : Ref sig .tc) :
    V m c b = StableHlo.after hostOps0 (fun b => m (c, b)) (Proc.devRef .tc b) := by
  simp only [V, V0, List.flatten_cons, List.flatten_nil, List.append_nil]

/-- The word read at point `t` is the program's last argument. -/
theorem tk_eq (c : Dev nD) (t : Fin cfg0.N) : tk m c t = m ((c : Thread nD τ).loc main_arg13) ix0 := by
  refine (Memref.IsWhole.readAt_unread (hs0_2 t) (iblk m c 2 t) _ _).trans ?_
  show V m c main_v2 _ = _
  rw [V_after]
  unfold hostOps0
  entry_read
  pointwise

/-- The offsets for a task index below three. -/
theorem chk_of_lt (i : grid0.Coords) (w : BitVec 32) (h : w.toNat < 3) : k0_chk1 i w := by
  have hc : w = 0#32 ∨ w = 1#32 ∨ w = 2#32 := by
    have : w.toNat = 0 ∨ w.toNat = 1 ∨ w.toNat = 2 := by omega
    rcases this with h | h | h
    · exact Or.inl (BitVec.eq_of_toNat_eq (by simpa using h))
    · exact Or.inr (Or.inl (BitVec.eq_of_toNat_eq (by simpa using h)))
    · exact Or.inr (Or.inr (BitVec.eq_of_toNat_eq (by simpa using h)))
  rcases hc with rfl | rfl | rfl
  all_goals
    refine ⟨fun _ => ?_, ?_, ?_⟩ <;> decide +kernel

/-- A task index below three discharges what the body assumes of the word it reads. -/
theorem hyps_of_task (h : ∀ c : Dev nD, (m ((c : Thread nD τ).loc main_arg13) ix0).toNat < 3) : Hyps m :=
  Hyps.of fun c t => chk_of_lt _ _ (lt_of_eq_of_lt (congrArg BitVec.toNat (tk_eq m c t)) (h c))

end Cert.KernelIdeal.Hand
-- ==== Proof.Pre.lean ====
module

public import proofs.«01_k».proof.Defs
public import proofs.«01_k».proof.Proof.Gen.Kernel
public import Idealize.ShloMosaic.Lib.ReduceAll
public import Idealize.ShloMosaic.Lib.WordCmp
public import Idealize.ShloMosaic.Lib.Pointwise

/-! What the frames' precondition says: the task index is below three. -/

@[expose] public section

set_option maxRecDepth 16384

noncomputable section

namespace Cert.Pre

open Idealize.ShloMosaic

/-- The shape facts of `task_exists`. -/
instance facts_task : Cert.Pre_task_exists.Facts := { }

/-- A conjunction of two truth words is one exactly when both are. -/
theorem andi_one {s : Shape} {a b : IVec s 1} (h : andi a b = fun _ => 1#1) : (a = fun _ => 1#1) ∧ (b = fun _ => 1#1) := by
  constructor <;> funext i <;> have h' := congrFun h i <;>
    (revert h'; show a i &&& b i = 1#1 → _; generalize a i = x; generalize b i = y; revert x y; decide)

/-- A word that is at least zero and below three, signed. -/
theorem word_lt {w : IVec Pre_task_exists.S_ 32}
    (h : andi (cmpi .sge w (constantI Pre_task_exists.S_ 32 0#32)) (cmpi .slt w (constantI Pre_task_exists.S_ 32 3#32)) = fun _ => 1#1) :
    (w ix0).toNat < 3 := by
  obtain ⟨h0, h1⟩ := andi_one h
  have e0 : IntOp.cmpi .sge (w ix0) 0#32 = 1#1 := congrFun h0 ix0
  have e1 : IntOp.cmpi .slt (w ix0) 3#32 = 1#1 := congrFun h1 ix0
  have a0 := IntOp.cmpi_sge.1 e0
  have a1 := IntOp.cmpi_slt.1 e1
  simp only [BitVec.toInt_eq_toNat_cond] at a0 a1
  simp at a0 a1
  split at a0 <;> split at a1 <;> omega

/-- The precondition of the frames, read. -/
theorem task_exists {F : FTy → Type} [FloatOps F] (a0 a1 : FVec F Pre_task_exists.S4x2048x1024 .f32) (a2 a3 : FVec F Pre_task_exists.S2048 .f32)
    (a4 : FVec F Pre_task_exists.S256x2048 .f32) (a5 a6 : FVec F Pre_task_exists.S256 .f32)
    (a7 : FVec F Pre_task_exists.S3x256x4 .f32) (a8 : FVec F Pre_task_exists.S4x256x32 .f32)
    (a9 : FVec F Pre_task_exists.S4x32 .f32) (a10 : FVec F Pre_task_exists.S4x32x256 .f32)
    (a11 : FVec F Pre_task_exists.S4x256 .f32) (a12 : FVec F Pre_task_exists.S6x1024 .f32)
    (w : IVec Pre_task_exists.S_ 32)
    (h : Pre_task_exists.fn a0 a1 a2 a3 a4 a5 a6 a7 a8 a9 a10 a11 a12 w = fun _ => 1#1) : (w ix0).toNat < 3 :=
  word_lt h

end Cert.Pre
-- ==== Proof.Alg.Norm.lean ====
module

public import Idealize.ShloMosaic.PureOps
public import Idealize.ShloMosaic.Lib.Pointwise
public import Mathlib.Data.EReal.Inv
public import Mathlib.Algebra.BigOperators.Fin

/-! The two layer norms on one row of extended reals: the mathematics' form, the kernel's form, and that they
    agree on finite rows. -/

@[expose] public section

noncomputable section

namespace Cert.Spec

open Idealize.ShloMosaic

/-- A finite extended real. -/
def Fin' (x : EReal) : Prop := x ≠ ⊤ ∧ x ≠ ⊥

/-- A real is finite. -/
theorem Fin'.coe (r : ℝ) : Fin' (r : EReal) := ⟨EReal.coe_ne_top r, EReal.coe_ne_bot r⟩

/-- A finite number is its real part. -/
theorem Fin'.eq {x : EReal} (h : Fin' x) : x = (x.toReal : EReal) := (EReal.coe_toReal h.1 h.2).symm

/-- A family of finite extended reals is a family of reals. -/
theorem lift {ι : Type} {f : ι → EReal} (h : ∀ i, Fin' (f i)) : ∃ g : ι → ℝ, f = fun i => (g i : EReal) :=
  ⟨fun i => (f i).toReal, funext fun i => (h i).eq⟩

/-- A sum of reals. -/
theorem coe_sum {ι : Type} [Fintype ι] (f : ι → ℝ) : ((∑ i, f i : ℝ) : EReal) = ∑ i, (f i : EReal) :=
  map_sum (⟨⟨Real.toEReal, rfl⟩, EReal.coe_add⟩ : ℝ →+ EReal) f Finset.univ

/-- Division by a nonzero number multiplies by its inverse. -/
theorem div_of_ne {x y : EReal} (h : y ≠ 0) : Ideal.div x y = x * y⁻¹ := by
  simp [Ideal.div, h]

/-- Division of reals. -/
theorem div_real (a : ℝ) {b : ℝ} (h : b ≠ 0) : Ideal.div (a : EReal) (b : EReal) = ((a / b : ℝ) : EReal) := by
  rw [div_of_ne (by exact_mod_cast h), ← EReal.coe_inv, ← EReal.coe_mul, div_eq_mul_inv]

/-- The root of a nonnegative real. -/
theorem sqrt_real {a : ℝ} (h : 0 ≤ a) : Ideal.sqrt (a : EReal) = ((Real.sqrt a : ℝ) : EReal) := by
  show (if a < 0 then (⊥ : EReal) else ((Real.sqrt a : ℝ) : EReal)) = _
  rw [if_neg (not_lt.mpr h)]

/-- The norms' small addend. -/
abbrev eps : EReal := Ideal.ofBits .f32 0x3727C5AC#32

/-- The stabilizer is a positive real. -/
theorem eps_eq : ∃ e : ℝ, 0 < e ∧ eps = (e : EReal) := by
  refine ⟨10995116 / 2 ^ 40, by norm_num, ?_⟩
  simp [eps, Ideal.ofBits, Ideal.ieee, -EReal.coe_mul]; norm_num

/-- The constant 2048. -/
theorem c2048 : Ideal.ofBits .f32 0x45000000#32 = ((2048 : ℝ) : EReal) := by
  simp [Ideal.ofBits, Ideal.ieee, -EReal.coe_mul]; norm_num

/-- The constant 1/2048. -/
theorem c2048inv : Ideal.ofBits .f32 0x3A000000#32 = ((1 / 2048 : ℝ) : EReal) := by
  simp [Ideal.ofBits, Ideal.ieee, -EReal.coe_mul]; norm_num

/-- The constant 256. -/
theorem c256 : Ideal.ofBits .f32 0x43800000#32 = ((256 : ℝ) : EReal) := by
  simp [Ideal.ofBits, Ideal.ieee, -EReal.coe_mul]; norm_num

/-- The constant one. -/
theorem c1 : Ideal.ofBits .f32 0x3F800000#32 = 1 := by
  simp [Ideal.ofBits, Ideal.ieee, -EReal.coe_mul]; norm_num

/-- Two halves, one after the other. -/
def cat (x t : Fin 1024 → EReal) (j : Fin 2048) : EReal :=
  if h : j.val < 1024 then x ⟨j.val, h⟩ else t ⟨j.val - 1024, by omega⟩

/-- The mean over `N` entries. -/
def mean (N : EReal) {n : ℕ} (y : Fin n → EReal) : EReal := Ideal.div (∑ j, y j) N

/-- The variance about the mean. -/
def var (N : EReal) {n : ℕ} (y : Fin n → EReal) : EReal := Ideal.div (∑ j, (y j - mean N y) * (y j - mean N y)) N

/-- A layer norm with scale `g` and shift `b`. -/
def ln (N : EReal) {n : ℕ} (y g b : Fin n → EReal) (j : Fin n) : EReal :=
  Ideal.div (y j - mean N y) (Ideal.sqrt (var N y + eps)) * g j + b j

/-- The normalised row projected. -/
def proj (y g b : Fin 2048 → EReal) (W : Fin 2048 → EReal) : EReal :=
  ∑ j, ln (Ideal.ofBits .f32 0x45000000#32) y g b j * W j

/-- The kernel's mean of a row given in two halves. -/
def kmean (x t : Fin 1024 → EReal) : EReal := ((∑ k, x k) + ∑ k, t k) * Ideal.ofBits .f32 0x3A000000#32

/-- The kernel's reciprocal deviation: from the mean square less the square of the mean. -/
def kinv (x t : Fin 1024 → EReal) : EReal :=
  Ideal.div (Ideal.ofBits .f32 0x3F800000#32)
    (Ideal.sqrt (((∑ k, x k * x k) + ∑ k, t k * t k) * Ideal.ofBits .f32 0x3A000000#32 - kmean x t * kmean x t + eps))

/-- The kernel's projection: the scale folded into the weights, the shift projected apart. -/
def kproj (x t : Fin 1024 → EReal) (g b : Fin 2048 → EReal) (W : Fin 2048 → EReal) : EReal :=
  (∑ k : Fin 1024, (x k - kmean x t) * kinv x t * (W ⟨k.val, by omega⟩ * g ⟨k.val, by omega⟩))
    + (∑ k : Fin 1024, (t k - kmean x t) * kinv x t * (W ⟨1024 + k.val, by omega⟩ * g ⟨1024 + k.val, by omega⟩))
    + ∑ j, b j * W j

/-- A sum over 2048 terms is the sum over its halves. -/
theorem sum_halves {M : Type} [AddCommMonoid M] (f : Fin 2048 → M) :
    ∑ j, f j = (∑ k : Fin 1024, f ⟨k.val, by omega⟩) + ∑ k : Fin 1024, f ⟨1024 + k.val, by omega⟩ := by
  rw [show (∑ j, f j) = ∑ j : Fin (1024 + 1024), f j from rfl, Fin.sum_univ_add]
  rfl

/-- A real times a sum of a real and anything. -/
theorem add_mul_real (r w : ℝ) (b : EReal) : ((r : EReal) + b) * (w : EReal) = (r : EReal) * w + b * w := by
  induction b with
  | coe b => norm_cast; ring
  | top =>
    rcases lt_trichotomy w 0 with h | h | h
    · rw [EReal.coe_add_top, EReal.top_mul_coe_of_neg h, ← EReal.coe_mul, EReal.add_bot]
    · subst h; simp
    · rw [EReal.coe_add_top, EReal.top_mul_coe_of_pos h, ← EReal.coe_mul, EReal.coe_add_top]
  | bot =>
    rcases lt_trichotomy w 0 with h | h | h
    · rw [EReal.add_bot, EReal.bot_mul_coe_of_neg h, ← EReal.coe_mul, EReal.coe_add_top]
    · subst h; simp
    · rw [EReal.add_bot, EReal.bot_mul_coe_of_pos h, ← EReal.coe_mul, EReal.add_bot]

/-- The mean square less the squared mean is the variance. -/
theorem var_real (y : Fin 2048 → ℝ) :
    (∑ j, y j * y j) * (1 / 2048) - (∑ j, y j) * (1 / 2048) * ((∑ j, y j) * (1 / 2048))
      = (∑ j, (y j - (∑ j, y j) / 2048) * (y j - (∑ j, y j) / 2048)) / 2048 := by
  generalize hS : ∑ j, y j = S
  have : ∑ j, (y j - S / 2048) * (y j - S / 2048) = (∑ j, y j * y j) - 2 * (S / 2048) * S + 2048 * (S / 2048 * (S / 2048)) := by
    have e : ∀ j, (y j - S / 2048) * (y j - S / 2048) = y j * y j - 2 * (S / 2048) * y j + S / 2048 * (S / 2048) := fun j => by ring
    simp only [e, Finset.sum_add_distrib, Finset.sum_sub_distrib, ← Finset.mul_sum, hS]
    simp
    ring
  rw [this]; ring

/-- A row of reals, the halves put together. -/
def catR (x t : Fin 1024 → ℝ) (j : Fin 2048) : ℝ :=
  if h : j.val < 1024 then x ⟨j.val, h⟩ else t ⟨j.val - 1024, by omega⟩

/-- The halves put together, as reals. -/
theorem cat_coe (x t : Fin 1024 → ℝ) : cat (fun k => (x k : EReal)) (fun k => (t k : EReal)) = fun j => (catR x t j : EReal) := by
  funext j; unfold cat catR; split <;> rfl

/-- The first half of a row. -/
theorem catR_lo (x t : Fin 1024 → ℝ) (k : Fin 1024) : catR x t ⟨k.val, by omega⟩ = x k := by
  unfold catR; simp

/-- The second half of a row. -/
theorem catR_hi (x t : Fin 1024 → ℝ) (k : Fin 1024) : catR x t ⟨1024 + k.val, by omega⟩ = t k := by
  unfold catR; simp

/-- The mean of a row of reals. -/
theorem mean_cat (x t : Fin 1024 → ℝ) :
    mean (Ideal.ofBits .f32 0x45000000#32) (fun j => (catR x t j : EReal)) = (((∑ j, catR x t j) / 2048 : ℝ) : EReal) := by
  unfold mean
  rw [← coe_sum, c2048, div_real _ (by norm_num)]

/-- The kernel's mean of a row of reals. -/
theorem kmean_cat (x t : Fin 1024 → ℝ) :
    kmean (fun k => (x k : EReal)) (fun k => (t k : EReal)) = (((∑ j, catR x t j) * (1 / 2048) : ℝ) : EReal) := by
  unfold kmean
  rw [← coe_sum, ← coe_sum, c2048inv, sum_halves (catR x t)]
  simp only [catR_lo, catR_hi]
  norm_cast

/-- The variance of a row of reals. -/
def varR (y : Fin 2048 → ℝ) : ℝ := (∑ j, (y j - (∑ j, y j) / 2048) * (y j - (∑ j, y j) / 2048)) / 2048

/-- A variance is not negative. -/
theorem varR_nonneg (y : Fin 2048 → ℝ) : 0 ≤ varR y :=
  div_nonneg (Finset.sum_nonneg fun _ _ => mul_self_nonneg _) (by norm_num)

/-- The variance of a row of reals, as a real. -/
theorem var_cat (x t : Fin 1024 → ℝ) :
    var (Ideal.ofBits .f32 0x45000000#32) (fun j => (catR x t j : EReal)) = ((varR (catR x t) : ℝ) : EReal) := by
  unfold var
  rw [mean_cat]
  simp only [← EReal.coe_sub, ← EReal.coe_mul]
  rw [← coe_sum, c2048, div_real _ (by norm_num)]
  rfl

/-- The kernel's reciprocal deviation of a row of reals. -/
theorem kinv_cat (x t : Fin 1024 → ℝ) (e : ℝ) (he : 0 < e) (hE : eps = (e : EReal)) :
    kinv (fun k => (x k : EReal)) (fun k => (t k : EReal)) = ((1 / Real.sqrt (varR (catR x t) + e) : ℝ) : EReal) := by
  unfold kinv
  rw [kmean_cat, hE, c1, c2048inv]
  simp only [← EReal.coe_mul]
  rw [← coe_sum, ← coe_sum]
  have h : (∑ k, x k * x k) + ∑ k, t k * t k = ∑ j, catR x t j * catR x t j := by
    rw [sum_halves fun j => catR x t j * catR x t j]
    simp only [catR_lo, catR_hi]
  rw [← EReal.coe_add, h, ← EReal.coe_mul, ← EReal.coe_sub, var_real, ← EReal.coe_add]
  have hp : 0 < varR (catR x t) + e := add_pos_of_nonneg_of_pos (varR_nonneg _) he
  rw [show (∑ j, (catR x t j - (∑ j, catR x t j) / 2048) * (catR x t j - (∑ j, catR x t j) / 2048)) / 2048 = varR (catR x t) from rfl,
    sqrt_real hp.le, ← EReal.coe_one, div_real _ (Real.sqrt_pos.mpr hp).ne']

/-- A square is never negative. -/
theorem sq_nonneg' (x : EReal) : 0 ≤ x * x := by
  induction x with
  | coe x => exact_mod_cast mul_self_nonneg x
  | top => simp
  | bot => simp

/-- The second norm's variance is not negative. -/
theorem var256_nonneg {n : ℕ} (u : Fin n → EReal) : 0 ≤ var (Ideal.ofBits .f32 0x43800000#32) u := by
  unfold var
  rw [c256, div_of_ne (by norm_num), ← EReal.coe_inv]
  exact mul_nonneg (Finset.sum_nonneg fun _ _ => sq_nonneg' _) (by norm_num)

/-- The kernel's second norm: it multiplies by the reciprocal deviation. -/
def kln {n : ℕ} (u g b : Fin n → EReal) (j : Fin n) : EReal :=
  (u j - mean (Ideal.ofBits .f32 0x43800000#32) u)
    * Ideal.div (Ideal.ofBits .f32 0x3F800000#32) (Ideal.sqrt (var (Ideal.ofBits .f32 0x43800000#32) u + eps)) * g j + b j

/-- The deviation is positive: a positive real or infinite. -/
theorem dev_cases {n : ℕ} (u : Fin n → EReal) :
    (∃ s : ℝ, 0 < s ∧ Ideal.sqrt (var (Ideal.ofBits .f32 0x43800000#32) u + eps) = (s : EReal))
      ∨ Ideal.sqrt (var (Ideal.ofBits .f32 0x43800000#32) u + eps) = ⊤ := by
  obtain ⟨e, he, hE⟩ := eps_eq
  have h0 := var256_nonneg u
  rw [hE]
  induction hv : var (Ideal.ofBits .f32 0x43800000#32) u with
  | coe v =>
    rw [hv] at h0
    have hp : 0 < v + e := add_pos_of_nonneg_of_pos (by exact_mod_cast h0) he
    exact Or.inl ⟨_, Real.sqrt_pos.mpr hp, by rw [← EReal.coe_add, sqrt_real hp.le]⟩
  | top => exact Or.inr (by rw [EReal.top_add_coe]; rfl)
  | bot => rw [hv] at h0; exact absurd h0 (by simp)

/-- The second norm's deviation is not zero. -/
theorem dev_ne_zero {n : ℕ} (u : Fin n → EReal) :
    Ideal.sqrt (var (Ideal.ofBits .f32 0x43800000#32) u + eps) ≠ 0 := by
  rcases dev_cases u with ⟨s, hs, h⟩ | h <;> rw [h]
  · exact_mod_cast hs.ne'
  · exact EReal.top_ne_zero

/-- The kernel's second norm is the norm, on any row. -/
theorem kln_eq {n : ℕ} (u g b : Fin n → EReal) : kln u g b = ln (Ideal.ofBits .f32 0x43800000#32) u g b := by
  funext j
  unfold kln ln
  rw [div_of_ne (dev_ne_zero u), div_of_ne (dev_ne_zero u), c1, one_mul]

/-- The second norm of any row is finite where its scale and shift are. -/
theorem ln_fin {n : ℕ} (u : Fin n → EReal) {g b : Fin n → EReal} (hg : ∀ j, Fin' (g j)) (hb : ∀ j, Fin' (b j)) (j : Fin n) :
    Fin' (ln (Ideal.ofBits .f32 0x43800000#32) u g b j) := by
  have key : ∃ r : ℝ, Ideal.div (u j - mean (Ideal.ofBits .f32 0x43800000#32) u)
      (Ideal.sqrt (var (Ideal.ofBits .f32 0x43800000#32) u + eps)) = (r : EReal) := by
    rw [div_of_ne (dev_ne_zero u)]
    rcases dev_cases u with ⟨s, hs, h⟩ | h
    · rw [h]
      have hd : ∃ d : ℝ, u j - mean (Ideal.ofBits .f32 0x43800000#32) u = (d : EReal) := by
        by_contra hn
        have hsq : (u j - mean (Ideal.ofBits .f32 0x43800000#32) u) * (u j - mean (Ideal.ofBits .f32 0x43800000#32) u) = ⊤ := by
          revert hn
          generalize u j - mean (Ideal.ofBits .f32 0x43800000#32) u = d
          intro hn
          induction d with
          | coe d => exact absurd ⟨d, rfl⟩ hn
          | top => simp
          | bot => simp
        have hv : var (Ideal.ofBits .f32 0x43800000#32) u = ⊤ := by
          unfold var
          have hs' : (∑ j, (u j - mean (Ideal.ofBits .f32 0x43800000#32) u) * (u j - mean (Ideal.ofBits .f32 0x43800000#32) u)) = ⊤ := by
            refine top_le_iff.mp ?_
            rw [← hsq]
            exact Finset.single_le_sum (f := fun j => (u j - mean (Ideal.ofBits .f32 0x43800000#32) u) * (u j - mean (Ideal.ofBits .f32 0x43800000#32) u))
              (fun _ _ => sq_nonneg' _) (Finset.mem_univ j)
          rw [hs', c256, div_of_ne (by norm_num), ← EReal.coe_inv]
          exact EReal.top_mul_coe_of_pos (by norm_num)
        obtain ⟨e, he, hE⟩ := eps_eq
        rw [hv, hE, EReal.top_add_coe, show Ideal.sqrt ⊤ = ⊤ from rfl] at h
        exact EReal.coe_ne_top s h.symm
      obtain ⟨d, hd⟩ := hd
      exact ⟨d * s⁻¹, by rw [hd, ← EReal.coe_inv, ← EReal.coe_mul]⟩
    · exact ⟨0, by rw [h, EReal.inv_top, mul_zero]; rfl⟩
  obtain ⟨r, hr⟩ := key
  unfold ln
  rw [hr, (hg j).eq, (hb j).eq, ← EReal.coe_mul, ← EReal.coe_add]
  exact Fin'.coe _

end Cert.Spec
-- ==== Proof.Alg.Gate.lean ====
module

public import proofs.«01_k».proof.Proof.Alg.Norm

/-! The gates of one row of four logits: the kernel's masks pick the two largest logits, the earlier one of
    equals first, and its weights are the softmax of those two. -/

@[expose] public section

noncomputable section

namespace Cert.Spec

open Idealize.ShloMosaic

/-- The maximum of a finite family, folded from minus infinity. -/
def mx {n : ℕ} (f : Fin n → EReal) : EReal :=
  Finset.fold max (Ideal.ofBits FTy.f32 0xFF800000#32) f Finset.univ

/-- The kernel's mask value is minus infinity. -/
theorem negInf : Ideal.ofBits FTy.f32 0xFF800000#32 = (⊥ : EReal) := by
  simp [Ideal.ofBits, Ideal.ieee]

/-- A member above all the others is the maximum. -/
theorem mx_eq {n : ℕ} {f : Fin n → EReal} {p : Fin n} (h : ∀ e, f e ≤ f p) : mx f = f p := by
  apply le_antisymm
  · exact (Finset.fold_max_le _).mpr ⟨by rw [negInf]; exact bot_le, fun e _ => h e⟩
  · exact (Finset.le_fold_max _).mpr (.inr ⟨p, Finset.mem_univ p, le_rfl⟩)

/-- The kernel's rank of a column: four minus its number. -/
def rank (e : Fin 4) : EReal :=
  FloatOps.sitofp (F := Ideal) FTy.f32 (IntOp.subi (4#32) (BitVec.ofNat 32 (e : ℕ)))

/-- A column's rank is four less its index. -/
theorem rank_eq (e : Fin 4) : rank e = ((4 - (e : ℕ) : ℝ) : EReal) := by
  have h : rank e = (((IntOp.subi (4#32) (BitVec.ofNat 32 (e : ℕ))).toInt : ℝ) : EReal) := rfl
  have h' : (IntOp.subi (4#32) (BitVec.ofNat 32 (e : ℕ))).toInt = 4 - (e : ℕ) := by
    clear h; revert e; decide
  rw [h, h']; push_cast; rfl

/-- The ranks of the columns that attain the maximum, zero elsewhere. -/
def wt (l : Fin 4 → EReal) (e : Fin 4) : EReal := if l e = mx l then rank e else 0

/-- The first of the largest columns. -/
def First (l : Fin 4 → EReal) (p : Fin 4) : Prop := (∀ e, l e ≤ l p) ∧ ∀ e, e < p → l e < l p

/-- The column of largest rank among the largest is the first of them. -/
theorem wt_first {l : Fin 4 → EReal} {p : Fin 4} (h : First l p) (e : Fin 4) :
    (wt l e = mx (wt l)) ↔ e = p := by
  have hm : mx l = l p := mx_eq h.1
  have hp : wt l p = rank p := by simp [wt, hm]
  have hlt : ∀ e, e ≠ p → wt l e < wt l p := by
    intro e he
    rw [hp, rank_eq]
    unfold wt
    split
    · next h1 =>
      rw [hm] at h1
      rw [rank_eq]
      have : ¬ e < p := fun h2 => absurd h1 (h.2 e h2).ne
      have h3 : (p : ℕ) < (e : ℕ) := by
        rcases lt_trichotomy e p with h4 | h4 | h4
        · exact absurd h4 this
        · exact absurd h4 he
        · exact h4
      have h5 : ((p : ℕ) : ℝ) < ((e : ℕ) : ℝ) := by exact_mod_cast h3
      exact_mod_cast (by linarith : (4 - ((e : ℕ) : ℝ)) < 4 - ((p : ℕ) : ℝ))
    · have h5 : ((p : ℕ) : ℝ) < 4 := by exact_mod_cast p.isLt
      exact_mod_cast (by linarith : (0 : ℝ) < 4 - ((p : ℕ) : ℝ))
  have hM : mx (wt l) = wt l p := mx_eq fun e => by
    by_cases he : e = p
    · rw [he]
    · exact (hlt e he).le
  rw [hM]
  constructor
  · intro h1
    by_contra he
    exact absurd h1 (hlt e he).ne
  · rintro rfl; rfl

/-- The columns of the two largest logits, the earlier one of equals first. -/
structure Top2 (l : Fin 4 → EReal) (p q : Fin 4) : Prop where
  first : First l p
  ne : q ≠ p
  le : ∀ e, e ≠ p → l e ≤ l q
  lt : ∀ e, e ≠ p → e < q → l e < l q

/-- The logits with the largest one masked. -/
def masked (l : Fin 4 → EReal) (e : Fin 4) : EReal :=
  if wt l e = mx (wt l) then Ideal.ofBits FTy.f32 0xFF800000#32 else l e

/-- The kernel's gate of a column. -/
def kgate (l : Fin 4 → EReal) (e : Fin 4) : EReal :=
  (if wt l e = mx (wt l) then Ideal.div 1 (1 + Ideal.exp (mx (masked l) - mx l)) else 0) +
  (if wt (masked l) e = mx (wt (masked l)) then
    Ideal.div (Ideal.exp (mx (masked l) - mx l)) (1 + Ideal.exp (mx (masked l) - mx l)) else 0)

/-- The gate of a column: the softmax of the two largest logits at their columns, zero elsewhere. -/
def gate (l : Fin 4 → EReal) (p q e : Fin 4) : EReal :=
  if e = p then Ideal.div 1 (1 + Ideal.exp (l q - l p))
  else if e = q then Ideal.div (Ideal.exp (l q - l p)) (1 + Ideal.exp (l q - l p)) else 0

/-- The kernel's gates are the softmax of the two largest logits. -/
theorem kgate_eq {l : Fin 4 → EReal} (hl : ∀ e, Fin' (l e)) {p q : Fin 4} (h : Top2 l p q) (e : Fin 4) :
    kgate l e = gate l p q e := by
  have hm : masked l = fun e => if e = p then ⊥ else l e := by
    funext e
    simp only [masked, wt_first h.first, negInf]
  have hf : First (masked l) q := by
    rw [hm]
    refine ⟨fun e => ?_, fun e he => ?_⟩
    · simp only [if_neg h.ne]
      split
      · exact bot_le
      · next h1 => exact h.le e h1
    · simp only [if_neg h.ne]
      split
      · exact bot_lt_iff_ne_bot.mpr (hl q).2
      · next h1 => exact h.lt e h1 he
  have h1 : mx l = l p := mx_eq h.first.1
  have h2 : mx (masked l) = l q := by rw [mx_eq hf.1, hm]; simp [h.ne]
  simp only [kgate, wt_first h.first, wt_first hf, h1, h2, gate]
  by_cases hp : e = p
  · subst hp; simp [h.ne.symm]
  · simp [hp]

/-- The exponential of a real. -/
theorem exp_real (r : ℝ) : Ideal.exp (r : EReal) = ((Real.exp r : ℝ) : EReal) := rfl

/-- Every gate is a nonnegative real. -/
theorem gate_real {l : Fin 4 → EReal} (hl : ∀ e, Fin' (l e)) (p q e : Fin 4) :
    ∃ r : ℝ, 0 ≤ r ∧ gate l p q e = (r : EReal) := by
  obtain ⟨L, rfl⟩ := lift hl
  have hp := Real.exp_pos (L q - L p)
  unfold gate
  simp only [← EReal.coe_sub, exp_real]
  split
  · refine ⟨1 / (1 + Real.exp (L q - L p)), by positivity, ?_⟩
    rw [← div_real _ (by positivity)]; simp
  · split
    · refine ⟨Real.exp (L q - L p) / (1 + Real.exp (L q - L p)), by positivity, ?_⟩
      rw [← div_real _ (by positivity)]; simp
    · exact ⟨0, le_rfl, rfl⟩

/-- The two softmax weights as the reference writes them. -/
def soft (v : Fin 2 → EReal) (k : Fin 2) : EReal :=
  Ideal.div (Ideal.exp (v k - max (Ideal.ofBits FTy.f32 0xFF800000#32) (mx v)))
    (∑ j, Ideal.exp (v j - max (Ideal.ofBits FTy.f32 0xFF800000#32) (mx v)))

/-- The softmax of the two largest logits, by column. -/
theorem soft_gate {l : Fin 4 → EReal} (hl : ∀ e, Fin' (l e)) {p q : Fin 4} (h : Top2 l p q) :
    soft ![l p, l q] 0 = gate l p q p ∧ soft ![l p, l q] 1 = gate l p q q := by
  have hM : max (Ideal.ofBits FTy.f32 0xFF800000#32) (mx ![l p, l q]) = l p := by
    rw [mx_eq (p := 0) (fun e => by fin_cases e <;> simp [h.first.1]), negInf]; simp
  have h0 : l p - l p = 0 := by rw [(hl p).eq, ← EReal.coe_sub, sub_self]; rfl
  have e0 : Ideal.exp (0 : EReal) = 1 := by
    have := exp_real 0
    rw [Real.exp_zero] at this; exact_mod_cast this
  simp only [soft, hM, Fin.sum_univ_two, gate, if_neg h.ne, if_true, Matrix.cons_val_zero, Matrix.cons_val_one, h0, e0,
    and_self]

end Cert.Spec
-- ==== Proof.Alg.Sort.lean ====
module

public import proofs.«01_k».proof.Proof.Alg.Gate
public import Idealize.ShloMosaic.Lib.SortPrefix

/-! A stable sort of four logits by "greater" begins with the two largest, the earlier one of equals first. -/

@[expose] public section

namespace Cert.Spec

open Idealize.ShloMosaic

/-- A stable sort asks only whether a later element goes before an earlier one. -/
theorem stableSort_agree {ι : Type} (R S : ι → ι → Bool) (l : List ι) (h : l.Pairwise fun a b => R b a = S b a) :
    stableSort R l = stableSort S l := by
  induction l with
  | nil => rfl
  | cons a l ih =>
    rw [List.pairwise_cons] at h
    show insertBefore R a (stableSort R l) = insertBefore S a (stableSort S l)
    rw [ih h.2]
    exact insertBefore_congr R S a _ fun b hb => h.1 b ((perm_stableSort S l).mem_iff.mp hb)

/-- "Greater, or equal and earlier" on the columns. -/
noncomputable def before (l : Fin 4 → EReal) (a b : Fin 4) : Bool :=
  (fun x y : EReal => decide (y < x)) (l a) (l b) || (decide (l a = l b) && decide (a < b))

/-- The order of the columns is total. -/
theorem before_total (l : Fin 4 → EReal) : StrictTotalBefore (before l) :=
  StrictTotalBefore.of_key_then_position (fun x y : EReal => decide (y < x)) l (fun a => by simp)
    (fun a b c h1 h2 => by simp only [decide_eq_true_eq] at *; exact h2.trans h1)
    (fun a b => by
      simp only [decide_eq_true_eq]
      rcases lt_trichotomy a b with h | h | h
      · exact .inr (.inr h)
      · exact .inr (.inl h)
      · exact .inl h)

/-- A column that does not come before another has no larger logit, or equals it at a later place. -/
theorem not_before {l : Fin 4 → EReal} {a b : Fin 4} (h : before l a b = false) :
    l a ≤ l b ∧ (a < b → l a < l b) := by
  simp only [before, Bool.or_eq_false_iff, Bool.and_eq_false_iff, decide_eq_false_iff_not, not_lt] at h
  refine ⟨h.1, fun hab => lt_of_le_of_ne h.1 fun he => ?_⟩
  rcases h.2 with h2 | h2
  · exact h2 he
  · exact absurd hab (not_lt.mpr h2)

/-- The first two positions of the sort are the columns of the two largest logits. -/
theorem top2_sorted (l : Fin 4 → EReal) (R : Fin 4 → Fin 4 → Bool) (hR : ∀ a b, R a b = decide (l b < l a)) :
    Top2 l (sortedFrom R 0) (sortedFrom R 1) := by
  have hs : sortedFrom R = sortedFrom (before l) := by
    funext k
    unfold sortedFrom
    have : sortPositions 4 R = sortPositions 4 (before l) :=
      stableSort_agree _ _ _ ((List.pairwise_lt_finRange 4).imp fun {a b} hab => by
        rw [hR]
        simp [before, not_lt.mpr (le_of_lt hab)])
    rw [List.get_of_eq this]
    rfl
  rw [hs]
  have hB := before_total l
  have hno := sortedFrom_noInversion (before l) (before l) (fun a b h => hB.asymm a b h) (fun _ _ h => h) hB.negTrans
  have hsur := sortedFrom_surjective (before l)
  have hinj := sortedFrom_injective (before l)
  refine ⟨⟨fun e => ?_, fun e he => ?_⟩, fun h => absurd (hinj h) (by decide), fun e he => ?_, fun e he hq => ?_⟩
  · obtain ⟨k, rfl⟩ := hsur e
    by_cases hk : k = 0
    · rw [hk]
    · exact (not_before (hno 0 k (Fin.pos_of_ne_zero hk))).1
  · obtain ⟨k, rfl⟩ := hsur e
    have hk : k ≠ 0 := fun h => by rw [h] at he; exact lt_irrefl _ he
    exact (not_before (hno 0 k (Fin.pos_of_ne_zero hk))).2 he
  · obtain ⟨k, rfl⟩ := hsur e
    have hk : k ≠ 0 := fun h => he (by rw [h])
    by_cases hk1 : k = 1
    · rw [hk1]
    · exact (not_before (hno 1 k (by omega))).1
  · obtain ⟨k, rfl⟩ := hsur e
    have hk : k ≠ 0 := fun h => he (by rw [h])
    have hk1 : k ≠ 1 := fun h => by rw [h] at hq; exact lt_irrefl _ hq
    exact (not_before (hno 1 k (by omega))).2 hq

end Cert.Spec
-- ==== Proof.Alg.Moe.lean ====
module

public import proofs.«01_k».proof.Proof.Alg.Gate

/-! The mixture of experts at one row and one output column, and the balance term: the kernel's sums against the
    mathematics'. -/

@[expose] public section

noncomputable section

namespace Cert.Spec

open Idealize.ShloMosaic

/-- The flat hidden column of an expert's hidden unit. -/
def flat (e : Fin 4) (j : Fin 32) : Fin 128 := ⟨32 * (e : ℕ) + (j : ℕ), by omega⟩

/-- A sum over all hidden units, expert by expert. -/
theorem sum_flat (f : Fin 128 → EReal) : ∑ i, f i = ∑ e, ∑ j, f (flat e j) := by
  rw [← Fintype.sum_prod_type', ← (finProdFinEquiv (m := 4) (n := 32)).sum_comp]
  refine Finset.sum_congr rfl fun p _ => congrArg f (Fin.ext ?_)
  show (p.2 : ℕ) + 32 * (p.1 : ℕ) = 32 * (p.1 : ℕ) + (p.2 : ℕ)
  omega

/-- Multiplication by a nonnegative real, over a sum. -/
theorem real_mul_sum {ι : Type} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- The kernel's mixture: every hidden unit scaled by its expert's gate, one product with all the experts' second
    weights, and the gated biases. -/
def kmix (h : Fin 128 → EReal) (g : Fin 4 → EReal) (sel : Fin 4 → Fin 128 → EReal) (w : Fin 128 → EReal) (b : Fin 4 → EReal) : EReal :=
  (∑ i, (h i * ∑ e, g e * sel e i) * w i) + ∑ e, g e * b e

/-- The mixture: the gated sum of the experts' outputs. -/
def mix (h : Fin 4 → Fin 32 → EReal) (g : Fin 4 → EReal) (w : Fin 4 → Fin 32 → EReal) (b : Fin 4 → EReal) : EReal :=
  ∑ e, g e * ((∑ j, w e j * h e j) + b e)

/-- The kernel's mixture is the mixture. -/
theorem kmix_eq {h : Fin 128 → EReal} {g : Fin 4 → EReal} {w : Fin 128 → EReal} {sel : Fin 4 → Fin 128 → EReal}
    (b : Fin 4 → EReal) (hg : ∀ e, ∃ r : ℝ, 0 ≤ r ∧ g e = (r : EReal))
    (hsel : ∀ e i, sel e i = if (i : ℕ) / 32 = (e : ℕ) then 1 else 0) :
    kmix h g sel w b = mix (fun e j => h (flat e j)) g (fun e j => w (flat e j)) b := by
  have hgs : ∀ e j, ∑ e', g e' * sel e' (flat e j) = g e := by
    intro e j
    have hd : (flat e j : ℕ) / 32 = (e : ℕ) := by show (32 * (e : ℕ) + (j : ℕ)) / 32 = _; omega
    rw [Finset.sum_eq_single e]
    · rw [hsel, if_pos hd, mul_one]
    · intro e' _ he
      rw [hsel, if_neg (fun h => he (Fin.ext (h.symm.trans hd))), mul_zero]
    · intro h; exact absurd (Finset.mem_univ _) h
  unfold kmix mix
  rw [sum_flat, ← Finset.sum_add_distrib]
  refine Finset.sum_congr rfl fun e _ => ?_
  obtain ⟨r, hr, hre⟩ := hg e
  rw [hre, EReal.left_distrib_of_nonneg_of_ne_top (by exact_mod_cast hr) (EReal.coe_ne_top r), real_mul_sum _ hr]
  congr 1
  refine Finset.sum_congr rfl fun j _ => ?_
  rw [hgs, hre, mul_comm (h _) (r : EReal), mul_assoc, mul_comm (h _)]

/-- The squared coefficient of variation as the kernel writes it. -/
def kcv (third : EReal) (a : Fin 4 → EReal) : EReal :=
  Ideal.div ((∑ i, (a i - (∑ j, a j) * Ideal.ofBits FTy.f32 0x3E800000#32) * (a i - (∑ j, a j) * Ideal.ofBits FTy.f32 0x3E800000#32)) * third)
    ((∑ j, a j) * Ideal.ofBits FTy.f32 0x3E800000#32 * ((∑ j, a j) * Ideal.ofBits FTy.f32 0x3E800000#32) + Ideal.ofBits FTy.f32 0x2EDBE6FF#32)

/-- The squared coefficient of variation: the unbiased variance over the squared mean. -/
def cv (a : Fin 4 → EReal) : EReal :=
  Ideal.div (Ideal.div (∑ i, (a i - Ideal.div (∑ j, a j) (Ideal.ofBits FTy.f32 0x40800000#32)) * (a i - Ideal.div (∑ j, a j) (Ideal.ofBits FTy.f32 0x40800000#32)))
      ((3 : ℝ) : EReal))
    (Ideal.div (∑ j, a j) (Ideal.ofBits FTy.f32 0x40800000#32) * Ideal.div (∑ j, a j) (Ideal.ofBits FTy.f32 0x40800000#32) + Ideal.ofBits FTy.f32 0x2EDBE6FF#32)

/-- The constant one quarter. -/
theorem quarter : Ideal.ofBits FTy.f32 0x3E800000#32 = ((1 / 4 : ℝ) : EReal) := by
  simp [Ideal.ofBits, Ideal.ieee, -EReal.coe_mul]; norm_num

/-- The constant four. -/
theorem four : Ideal.ofBits FTy.f32 0x40800000#32 = ((4 : ℝ) : EReal) := by
  simp [Ideal.ofBits, Ideal.ieee, -EReal.coe_mul]; norm_num

/-- Division by a nonzero real is multiplication by its reciprocal. -/
theorem div_coe (x : EReal) {c : ℝ} (hc : c ≠ 0) : Ideal.div x (c : EReal) = x * ((1 / c : ℝ) : EReal) := by
  rw [div_of_ne (by exact_mod_cast hc), ← EReal.coe_inv, one_div]

/-- The kernel's loss of four numbers is the squared coefficient of variation. -/
theorem kcv_eq (a : Fin 4 → EReal) : kcv ((1 / 3 : ℝ) : EReal) a = cv a := by
  unfold kcv cv
  simp only [quarter, four, div_coe _ (four_ne_zero (α := ℝ)), div_coe _ (three_ne_zero (α := ℝ))]

end Cert.Spec
-- ==== Proof.Alg.Fold.lean ====
module

public import proofs.«01_k».proof.Proof.Alg.Norm

/-! The two norms and the projection between them, on any row. A row with an infinite entry is normalized to zero by
    both programs; a projection that the fold of the scale changes is infinite in both, and the second norm takes a
    row with an infinite entry to its shift. -/

@[expose] public section

noncomputable section

namespace Cert.Spec

open Idealize.ShloMosaic

/-- The parts of a finite sum of two are finite. -/
theorem fin_of_add {a b : EReal} (h : Fin' (a + b)) : Fin' a := by
  induction a with
  | coe a => exact Fin'.coe a
  | top =>
    induction b with
    | coe b => exact absurd (EReal.top_add_coe b) h.1
    | top => exact absurd EReal.top_add_top h.1
    | bot => exact absurd (EReal.add_bot ⊤) h.2
  | bot => exact absurd (EReal.bot_add b) h.2

/-- The terms of a finite sum are finite. -/
theorem fin_of_sum {n : ℕ} {f : Fin n → EReal} (h : Fin' (∑ j, f j)) (j : Fin n) : Fin' (f j) := by
  rw [← Finset.add_sum_erase _ f (Finset.mem_univ j)] at h
  exact fin_of_add h

/-- What a nonzero real scales to a finite number is finite. -/
theorem fin_of_mul {a : EReal} {w : ℝ} (hw : w ≠ 0) (h : Fin' (a * (w : EReal))) : Fin' a := by
  induction a with
  | coe a => exact Fin'.coe a
  | top =>
    rcases lt_or_gt_of_ne hw with hw | hw
    · exact absurd (EReal.top_mul_coe_of_neg hw) h.2
    · exact absurd (EReal.top_mul_coe_of_pos hw) h.1
  | bot =>
    rcases lt_or_gt_of_ne hw with hw | hw
    · exact absurd (EReal.bot_mul_coe_of_neg hw) h.1
    · exact absurd (EReal.bot_mul_coe_of_pos hw) h.2

/-- The square of an infinity. -/
theorem sq_inf {a : EReal} (h : ¬Fin' a) : a * a = ⊤ := by
  induction a with
  | coe a => exact absurd (Fin'.coe a) h
  | top => simp
  | bot => simp

/-- A sum of squares, one of them of an infinity. -/
theorem sum_sq_inf {n : ℕ} {f : Fin n → EReal} {j : Fin n} (h : ¬Fin' (f j)) : ∑ j, f j * f j = ⊤ := by
  refine top_le_iff.mp ?_
  rw [← sq_inf h]
  exact Finset.single_le_sum (f := fun j => f j * f j) (fun _ _ => sq_nonneg' _) (Finset.mem_univ j)

/-- The deviation of a row with an infinite entry is infinite. -/
theorem dev_inf {c : ℝ} (hc : 0 < c) {n : ℕ} {y : Fin n → EReal} {j : Fin n} (h : ¬Fin' (y j)) :
    Ideal.sqrt (var (c : EReal) y + eps) = ⊤ := by
  obtain ⟨e, he, hE⟩ := eps_eq
  have hd : ¬Fin' (y j - mean (c : EReal) y) := fun hf => h (fin_of_add (by rwa [sub_eq_add_neg] at hf))
  unfold var
  rw [sum_sq_inf (f := fun j => y j - mean (c : EReal) y) hd, div_of_ne (by exact_mod_cast hc.ne'), ← EReal.coe_inv,
    EReal.top_mul_coe_of_pos (inv_pos.mpr hc), hE, EReal.top_add_coe]
  rfl

/-- Division by plus infinity. -/
theorem div_top (x : EReal) : Ideal.div x ⊤ = 0 := by
  rw [div_of_ne EReal.top_ne_zero, EReal.inv_top, mul_zero]

/-- The second norm takes a row with an infinite entry to its shift. -/
theorem ln_inf {n : ℕ} {u : Fin n → EReal} {r : Fin n} (h : ¬Fin' (u r)) (g b : Fin n → EReal) :
    ln (Ideal.ofBits .f32 0x43800000#32) u g b = b := by
  funext j
  unfold ln
  rw [c256, dev_inf (by norm_num) h, div_top, zero_mul, zero_add]

/-- The kernel's reciprocal deviation of a row with an infinite entry is zero. -/
theorem kinv_inf {x t : Fin 1024 → EReal} (h : ¬((∀ k, Fin' (x k)) ∧ ∀ k, Fin' (t k))) : kinv x t = 0 := by
  obtain ⟨e, he, hE⟩ := eps_eq
  have hm : ¬Fin' (kmean x t) := fun hf => by
    unfold kmean at hf
    rw [c2048inv] at hf
    have hs := fin_of_mul (by norm_num) hf
    exact h ⟨fin_of_sum (fin_of_add hs), fin_of_sum (fin_of_add (by rwa [add_comm] at hs))⟩
  unfold kinv
  rw [sq_inf hm, hE, sub_eq_add_neg, EReal.neg_top, EReal.add_bot, EReal.bot_add, show Ideal.sqrt ⊥ = ⊥ from rfl,
    div_of_ne EReal.bot_ne_zero, EReal.inv_bot, mul_zero]

/-- Every row is normalized to reals, by both programs to the same. -/
theorem norm_both (x t : Fin 1024 → EReal) : ∃ n : Fin 2048 → ℝ,
    (∀ j, Ideal.div (cat x t j - mean (Ideal.ofBits .f32 0x45000000#32) (cat x t))
      (Ideal.sqrt (var (Ideal.ofBits .f32 0x45000000#32) (cat x t) + eps)) = (n j : EReal))
    ∧ (∀ k : Fin 1024, (x k - kmean x t) * kinv x t = (n ⟨k.val, by omega⟩ : EReal))
    ∧ (∀ k : Fin 1024, (t k - kmean x t) * kinv x t = (n ⟨1024 + k.val, by omega⟩ : EReal)) := by
  by_cases h : (∀ k, Fin' (x k)) ∧ ∀ k, Fin' (t k)
  · obtain ⟨x, rfl⟩ := lift h.1
    obtain ⟨t, rfl⟩ := lift h.2
    obtain ⟨e, he, hE⟩ := eps_eq
    have hp : 0 < varR (catR x t) + e := add_pos_of_nonneg_of_pos (varR_nonneg _) he
    refine ⟨fun j => (catR x t j - (∑ j, catR x t j) / 2048) / Real.sqrt (varR (catR x t) + e), ?_, ?_, ?_⟩
    · intro j
      rw [cat_coe, mean_cat, var_cat, hE, ← EReal.coe_add, sqrt_real hp.le, ← EReal.coe_sub,
        div_real _ (Real.sqrt_pos.mpr hp).ne']
    all_goals
      intro k
      rw [kmean_cat, kinv_cat x t e he hE, ← EReal.coe_sub, ← EReal.coe_mul]
      simp only [catR_lo, catR_hi]
      generalize (∑ j, catR x t j) = S
      refine congrArg Real.toEReal ?_
      ring
  · refine ⟨fun _ => 0, fun j => ?_, fun k => ?_, fun k => ?_⟩
    · have hj : ∃ j, ¬Fin' (cat x t j) := by
        by_contra hn
        push Not at hn
        refine h ⟨fun k => ?_, fun k => ?_⟩
        · have := hn ⟨k.val, by omega⟩
          simpa [cat] using this
        · have := hn ⟨1024 + k.val, by omega⟩
          simpa [cat] using this
      obtain ⟨j', hj'⟩ := hj
      rw [c2048, dev_inf (by norm_num) hj', div_top]; rfl
    all_goals rw [kinv_inf h, mul_zero]; rfl

/-- A term of the projection, with the scale folded into the weight and the shift apart: the same, or both infinite. -/
theorem fold_term (n w : ℝ) (g b : EReal) :
    (n : EReal) * (w * g) + b * w = ((n : EReal) * g + b) * w
      ∨ (¬Fin' ((n : EReal) * (w * g) + b * w) ∧ ¬Fin' (((n : EReal) * g + b) * w)) := by
  have hA : (n : EReal) * (w * g) = (n : EReal) * g * w := by rw [mul_comm (w : EReal) g, mul_assoc]
  rw [hA]
  by_cases hf : Fin' ((n : EReal) * g)
  · left
    rw [hf.eq]
    exact (add_mul_real _ w b).symm
  · by_cases hw : w = 0
    · left; subst hw; simp
    · exact Or.inr ⟨fun h => hf (fin_of_mul hw (fin_of_add h)), fun h => hf (fin_of_add (fin_of_mul hw h))⟩

/-- The kernel's projection of a normalized row is the projection, or both are infinite. -/
theorem kproj_proj (x t : Fin 1024 → EReal) (g b : Fin 2048 → EReal) {W : Fin 2048 → EReal} (hW : ∀ j, Fin' (W j)) :
    kproj x t g b W = proj (cat x t) g b W ∨ (¬Fin' (kproj x t g b W) ∧ ¬Fin' (proj (cat x t) g b W)) := by
  obtain ⟨W, rfl⟩ := lift hW
  obtain ⟨n, h1, h2, h3⟩ := norm_both x t
  have hk : kproj x t g b (fun j => (W j : EReal)) = ∑ j, ((n j : EReal) * (W j * g j) + b j * W j) := by
    unfold kproj
    rw [Finset.sum_add_distrib, sum_halves (fun j => (n j : EReal) * (W j * g j))]
    simp only [h2, h3]
  have hp : proj (cat x t) g b (fun j => (W j : EReal)) = ∑ j, ((n j : EReal) * g j + b j) * W j := by
    unfold proj ln
    simp only [h1]
  rw [hk, hp]
  by_cases h : ∀ j, (n j : EReal) * (W j * g j) + b j * W j = ((n j : EReal) * g j + b j) * W j
  · exact Or.inl (Finset.sum_congr rfl fun j _ => h j)
  · push Not at h
    obtain ⟨j, hj⟩ := h
    obtain ⟨ha, hb⟩ := (fold_term (n j) (W j) (g j) (b j)).resolve_left hj
    exact Or.inr ⟨fun h => ha (fin_of_sum h j), fun h => hb (fin_of_sum h j)⟩

/-- The second norm of the kernel's projections is that of the projections, on any row. -/
theorem kln_kproj (x t : Fin 1024 → EReal) (g b : Fin 2048 → EReal) {W : Fin 256 → Fin 2048 → EReal} (hW : ∀ r j, Fin' (W r j))
    (g2 b2 : Fin 256 → EReal) :
    kln (fun r => kproj x t g b (W r)) g2 b2
      = ln (Ideal.ofBits .f32 0x43800000#32) (fun r => proj (cat x t) g b (W r)) g2 b2 := by
  rw [kln_eq]
  by_cases h : ∀ r, kproj x t g b (W r) = proj (cat x t) g b (W r)
  · simp only [h]
  · push Not at h
    obtain ⟨r, hr⟩ := h
    obtain ⟨ha, hb⟩ := (kproj_proj x t g b (hW r)).resolve_left hr
    rw [ln_inf (u := fun r => kproj x t g b (W r)) ha, ln_inf (u := fun r => proj (cat x t) g b (W r)) hb]

end Cert.Spec
-- ==== Proof.Alg.Model.lean ====
module

public import proofs.«01_k».proof.Proof.Alg.Sort
public import proofs.«01_k».proof.Proof.Alg.Moe
public import proofs.«01_k».proof.Proof.Alg.Fold

/-! The whole computation on one row of the two inputs, as plain functions of extended reals. -/

@[expose] public section

noncomputable section

namespace Cert.Spec

open Idealize.ShloMosaic

/-- The weights, the gate's already taken at the task. -/
structure Par where
  g1 : Fin 2048 → EReal
  b1 : Fin 2048 → EReal
  W : Fin 256 → Fin 2048 → EReal
  g2 : Fin 256 → EReal
  b2 : Fin 256 → EReal
  wg : Fin 256 → Fin 4 → EReal
  we1 : Fin 4 → Fin 256 → Fin 32 → EReal
  be1 : Fin 4 → Fin 32 → EReal
  we2 : Fin 4 → Fin 32 → Fin 256 → EReal
  be2 : Fin 4 → Fin 256 → EReal

/-- The weights that must be finite. -/
structure Par.Finite (P : Par) : Prop where
  W : ∀ r j, Fin' (P.W r j)
  g2 : ∀ j, Fin' (P.g2 j)
  b2 : ∀ j, Fin' (P.b2 j)
  wg : ∀ j e, Fin' (P.wg j e)

variable (P : Par) (x t : Fin 1024 → EReal)

/-- The fused features: both norms and the projection between them. -/
def fused (j : Fin 256) : EReal :=
  ln (Ideal.ofBits .f32 0x43800000#32) (fun r => proj (cat x t) P.g1 P.b1 (P.W r)) P.g2 P.b2 j

/-- The logit of an expert. -/
def logit (e : Fin 4) : EReal := ∑ j, fused P x t j * P.wg j e

/-- The positions of the logits, the largest first. -/
def order (l : Fin 4 → EReal) : Fin 4 → Fin 4 := sortedFrom fun a b => decide (l b < l a)

/-- The gate of an expert. -/
def gates (e : Fin 4) : EReal := gate (logit P x t) (order (logit P x t) 0) (order (logit P x t) 1) e

/-- A hidden unit of an expert. -/
def hidden (e : Fin 4) (i : Fin 32) : EReal := max ((∑ j, fused P x t j * P.we1 e j i) + P.be1 e i) 0

/-- The mixture of the experts. -/
def moe (c : Fin 256) : EReal := mix (hidden P x t) (gates P x t) (fun e i => P.we2 e i c) (fun e => P.be2 e c)

/-- The gate of the first modality. -/
def sigA : EReal := Ideal.logistic (Ideal.div (∑ k : Fin 128, moe P x t ⟨k, by omega⟩) (Ideal.ofBits .f32 0x43000000#32))

/-- The gate of the second modality. -/
def sigB : EReal := Ideal.logistic (Ideal.div (∑ k : Fin 128, moe P x t ⟨128 + k, by omega⟩) (Ideal.ofBits .f32 0x43000000#32))

variable {P}

/-- A sum of finite terms is finite. -/
theorem sum_fin {ι : Type} [Fintype ι] {f : ι → EReal} (h : ∀ i, Fin' (f i)) : Fin' (∑ i, f i) := by
  obtain ⟨g, rfl⟩ := lift h
  rw [← coe_sum]; exact Fin'.coe _

/-- A product of finite factors is finite. -/
theorem mul_fin {a b : EReal} (ha : Fin' a) (hb : Fin' b) : Fin' (a * b) := by
  rw [ha.eq, hb.eq, ← EReal.coe_mul]; exact Fin'.coe _

/-- The logits are finite. -/
theorem logit_fin (h : P.Finite) (e : Fin 4) : Fin' (logit P x t e) :=
  sum_fin fun j => mul_fin (ln_fin _ h.g2 h.b2 j) (h.wg j e)

/-- The first two of the sorted columns are the two largest. -/
theorem top2_order (l : Fin 4 → EReal) : Top2 l (order l 0) (order l 1) := top2_sorted l _ fun _ _ => rfl

/-- A gate is a nonnegative real. -/
theorem gates_real (h : P.Finite) (e : Fin 4) : ∃ r : ℝ, 0 ≤ r ∧ gates P x t e = (r : EReal) :=
  gate_real (logit_fin x t h) _ _ e

/-- The kernel's gates of the logits are the gates. -/
theorem kgate_gates (h : P.Finite) (e : Fin 4) : kgate (logit P x t) e = gates P x t e :=
  kgate_eq (logit_fin x t h) (top2_order _) e

/-- The kernel's features are the fused features. -/
theorem kln_fused (h : P.Finite) (j : Fin 256) :
    kln (fun r => kproj x t P.g1 P.b1 (P.W r)) P.g2 P.b2 j = fused P x t j := by
  rw [kln_kproj x t _ _ h.W]
  rfl

end Cert.Spec
-- ==== Proof.Ideal.Rows.lean ====
module

public import proofs.«01_k».proof.Proof.Ideal.Vals
public import proofs.«01_k».proof.Proof.Alg.Model
public import Idealize.ShloMosaic.Lib.Pointwise

/-! The body's values at one row, over the extended reals: each is the row's plain function of Alg/Model. -/

@[expose] public section

set_option maxRecDepth 16384

noncomputable section

namespace Cert.KernelIdeal.Hand

open Idealize.ShloMosaic Idealize.ShloMosaic.TcCoe Idealize.ShloMosaic.Tactic
open Cert.KernelIdeal.Gen Cert.KernelIdeal
open Cert.Spec (Par fused logit gates hidden moe sigA sigB kln kproj kgate kmix kcv flat Fin')

/-- The weights as plain functions, the gate's at task `k`. -/
def par (o : Ops Ideal) (k : Fin 3) : Par where
  g1 j := o.g1 (ix2 0 j)
  b1 j := o.b1 (ix2 0 j)
  W r j := o.wred (ix2 r j)
  g2 j := o.g2 (ix2 0 j)
  b2 j := o.b2 (ix2 0 j)
  wg j e := o.wg (ix3 k j e)
  we1 e j i := o.we1 (ix3 e j i)
  be1 e i := o.be1 (ix2 e i)
  we2 e i c := o.w2 (ix2 (flat e i) c)
  be2 e c := o.be2 (ix2 e c)

/-- A row of a block. -/
def row (x : Vec Ideal S1024x1024 .f32) (r : Fin 1024) (k : Fin 1024) : EReal := x (ix2 r k)

section Generic

variable (x t : Vec Ideal S1024x1024 .f32)

/-- The mean of a row. -/
theorem mean_at (r : Fin 1024) : (k0_pay21 x t (ix2 r 0) : EReal) = Cert.Spec.kmean (row x r) (row t r) := by
  pointwise [k0_pay21, k0_pay19, k0_pay20]
  rfl

/-- The reciprocal deviation of a row. -/
theorem inv_at (r : Fin 1024) : (k0_pay22 x t (ix2 r 0) : EReal) = Cert.Spec.kinv (row x r) (row t r) := by
  have h := mean_at x t r
  pointwise [k0_pay22, k0_pay19, k0_pay20]
  rw [h, Cert.Spec.kinv, Cert.Spec.c1]
  rfl

/-- The first half of a normalized row. -/
theorem xn_at (r k : Fin 1024) : (k0_pay23 x t (ix2 r k) : EReal)
    = (row x r k - Cert.Spec.kmean (row x r) (row t r)) * Cert.Spec.kinv (row x r) (row t r) := by
  have h := mean_at x t r
  have h' := inv_at x t r
  rw [← h, ← h']
  pointwise [k0_pay23, k0_pay19, k0_pay20]
  rfl

/-- The second half of a normalized row. -/
theorem tn_at (r k : Fin 1024) : (k0_pay24 x t (ix2 r k) : EReal)
    = (row t r k - Cert.Spec.kmean (row x r) (row t r)) * Cert.Spec.kinv (row x r) (row t r) := by
  have h := mean_at x t r
  have h' := inv_at x t r
  rw [← h, ← h']
  pointwise [k0_pay24, k0_pay19, k0_pay20]
  rfl

/-- The second norm and the matmul after it. -/
theorem feat_at (xn tn : FVec Ideal S1024x1024 .bf16) (wx wt : Vec Ideal S256x1024 .bf16) (c2 g2 b2 : Vec Ideal S1x256 .f32)
    (w1 : Vec Ideal S256x132 .bf16) (r : Fin 1024) (c : Fin 132) :
    (k0_pay25 xn tn wx wt c2 g2 b2 w1 (ix2 r c) : EReal)
      = ∑ j : Fin 256, kln (fun q : Fin 256 => (∑ k : Fin 1024, xn (ix2 r k) * wx (ix2 q k)) + (∑ k : Fin 1024, tn (ix2 r k) * wt (ix2 q k)) + c2 (ix2 0 q))
          (fun j => g2 (ix2 0 j)) (fun j => b2 (ix2 0 j)) j * w1 (ix2 j c) := by
  pointwise [k0_pay25]
  simp only [kln, Cert.Spec.mean, Cert.Spec.var, Cert.Spec.c1]

end Generic

section Prep

variable (o : Ops Ideal) (tk : BitVec 32) (h : ∀ a, (k0_off1 tk) a + S1x256x4.size a ≤ S3x256x4.size a)

/-- The first half of the scaled projection weights. -/
theorem wx_at (q : Fin 256) (k : Fin 1024) : ((prep o tk h).wx (ix2 q k) : EReal)
    = o.wred (ix2 q ⟨k.val, by omega⟩) * o.g1 (ix2 0 ⟨k.val, by omega⟩) := by
  show k0_pay12 (k0_pay11 o.wred o.g1) (ix2 q k) = _
  pointwise [k0_pay12, k0_pay11]

/-- The second half of the scaled projection weights. -/
theorem wt_at (q : Fin 256) (k : Fin 1024) : ((prep o tk h).wt (ix2 q k) : EReal)
    = o.wred (ix2 q ⟨1024 + k.val, by omega⟩) * o.g1 (ix2 0 ⟨1024 + k.val, by omega⟩) := by
  show k0_pay13 o.wred o.g1 (ix2 q k) = _
  pointwise [k0_pay13]

/-- The projected shift. -/
theorem c2_at (q : Fin 256) : ((prep o tk h).c2 (ix2 0 q) : EReal) = ∑ j : Fin 2048, o.b1 (ix2 0 j) * o.wred (ix2 q j) := by
  show k0_pay14 o.wred o.b1 (ix2 0 q) = _
  pointwise [k0_pay14]

/-- Triples with equal parts. -/
theorem ix3_congr {A B C : ℕ} {a a' : Fin A} {b b' : Fin B} {c c' : Fin C} (ha : a = a') (hb : b = b') (hc : c = c') :
    ix3 a b c = ix3 a' b' c' := by subst ha hb hc; rfl

/-- Pairs with equal parts. -/
theorem ix2_congr {A B : ℕ} {a a' : Fin A} {b b' : Fin B} (ha : a = a') (hb : b = b') : ix2 a b = ix2 a' b' := by
  subst ha hb; rfl

/-- The task's slab of the gate weights. -/
theorem slab_at (k : Fin 3) (hk : tk = BitVec.ofNat 32 k) (j : Fin 256) (e : Fin 4) :
    (gateSlab o.wg tk h (ix3 0 j e) : EReal) = o.wg (ix3 k j e) := by
  have h0 : k0_off1 tk 0 = k := by subst hk; revert k; decide +kernel
  have h1 : k0_off1 tk 1 = 0 := by subst hk; revert k; decide +kernel
  have h2 : k0_off1 tk 2 = 0 := by subst hk; revert k; decide +kernel
  pointwise [gateSlab]
  exact congrArg o.wg (ix3_congr (Fin.ext h0) (Fin.ext (by simp [h1])) (Fin.ext (by simp [h2])))

/-- The experts' first weights among the fused columns. -/
theorem w1_at (e : Fin 4) (j : Fin 256) (i : Fin 32) :
    ((prep o tk h).w1 (ix2 j ⟨flat e i, by omega⟩) : EReal) = o.we1 (ix3 e j i) := by
  show k0_pay15 _ _ _ _ _ (ix2 j ⟨32 * (e : ℕ) + (i : ℕ), by omega⟩) = _
  pointwise [k0_pay15]
  have hi := i.isLt
  fin_cases e <;> simp only <;> repeat' split
  all_goals first
    | (exfalso; omega)
    | exact congrArg o.we1 (ix3_congr rfl rfl (Fin.ext (by simp only; omega)))

/-- The task's gate weights among the fused columns. -/
theorem w1_gate_at (k : Fin 3) (hk : tk = BitVec.ofNat 32 k) (j : Fin 256) (e : Fin 4) :
    ((prep o tk h).w1 (ix2 j ⟨128 + (e : ℕ), by omega⟩) : EReal) = o.wg (ix3 k j e) := by
  have hs := slab_at o tk h k hk j e
  show k0_pay15 _ _ _ _ _ (ix2 j ⟨128 + (e : ℕ), by omega⟩) = _
  pointwise [k0_pay15]
  exact hs

/-- The experts' first biases among the fused columns. -/
theorem b1_at (e : Fin 4) (i : Fin 32) : ((prep o tk h).b1 (ix2 0 ⟨flat e i, by omega⟩) : EReal) = o.be1 (ix2 e i) := by
  show k0_pay16 _ _ _ _ (ix2 0 ⟨32 * (e : ℕ) + (i : ℕ), by omega⟩) = _
  pointwise [k0_pay16]
  have hi := i.isLt
  fin_cases e <;> simp only <;> repeat' split
  all_goals first
    | (exfalso; omega)
    | exact congrArg o.be1 (ix2_congr rfl (Fin.ext (by simp only; omega)))

/-- The gate columns have no bias. -/
theorem b1_gate_at (e : Fin 4) : ((prep o tk h).b1 (ix2 0 ⟨128 + (e : ℕ), by omega⟩) : EReal) = 0 := by
  show k0_pay16 _ _ _ _ (ix2 0 ⟨128 + (e : ℕ), by omega⟩) = _
  pointwise [k0_pay16]
  rw [dif_neg (by omega), dif_neg (by omega), dif_neg (by omega), dif_neg (by omega)]

/-- The selector of an expert's hidden units. -/
theorem sel_at (e : Fin 4) (i : Fin 128) : ((prep o tk h).sel (ix2 e i) : EReal) = if (i : ℕ) / 32 = (e : ℕ) then 1 else 0 := by
  show k0_pay18 k0_pay17 (ix2 e i) = _
  pointwise [k0_pay18, k0_pay17]
  have key : ∀ (e : Fin 4) (i : Fin 128), (BitVec.setWidth 32
        (IntOp.cmpi CmpIPredicate.eq
          (Scalar.select
            (IntOp.andi
              (IntOp.cmpi CmpIPredicate.ne
                (IntOp.subi (BitVec.setWidth 32 (IntOp.cmpi CmpIPredicate.sgt (BitVec.ofNat 32 ↑i) 0#32))
                  (BitVec.setWidth 32 (IntOp.cmpi CmpIPredicate.slt (BitVec.ofNat 32 ↑i) 0#32)))
                (Scalar.subi (Scalar.extui (Scalar.cmpi CmpIPredicate.sgt 32#32 0#32))
                  (Scalar.extui (Scalar.cmpi CmpIPredicate.slt 32#32 0#32))))
              (IntOp.cmpi CmpIPredicate.ne (IntOp.remsi ArithUnit.vector (BitVec.ofNat 32 ↑i) 32#32) 0#32))
            (IntOp.subi (IntOp.divsi ArithUnit.vector (BitVec.ofNat 32 ↑i) 32#32) 1#32)
            (IntOp.divsi ArithUnit.vector (BitVec.ofNat 32 ↑i) 32#32))
          (BitVec.ofNat 32 ↑e))).toInt = if (i : ℕ) / 32 = (e : ℕ) then 1 else 0 := by decide +kernel
  show ((((BitVec.setWidth 32
        (IntOp.cmpi CmpIPredicate.eq
          (Scalar.select
            (IntOp.andi
              (IntOp.cmpi CmpIPredicate.ne
                (IntOp.subi (BitVec.setWidth 32 (IntOp.cmpi CmpIPredicate.sgt (BitVec.ofNat 32 ↑i) 0#32))
                  (BitVec.setWidth 32 (IntOp.cmpi CmpIPredicate.slt (BitVec.ofNat 32 ↑i) 0#32)))
                (Scalar.subi (Scalar.extui (Scalar.cmpi CmpIPredicate.sgt 32#32 0#32))
                  (Scalar.extui (Scalar.cmpi CmpIPredicate.slt 32#32 0#32))))
              (IntOp.cmpi CmpIPredicate.ne (IntOp.remsi ArithUnit.vector (BitVec.ofNat 32 ↑i) 32#32) 0#32))
            (IntOp.subi (IntOp.divsi ArithUnit.vector (BitVec.ofNat 32 ↑i) 32#32) 1#32)
            (IntOp.divsi ArithUnit.vector (BitVec.ofNat 32 ↑i) 32#32))
          (BitVec.ofNat 32 ↑e))).toInt : ℤ) : ℝ) : EReal) = _
  rw [key]
  split <;> simp

end Prep

/-- Where the first shift of a task lies. -/
theorem off2_at (k : Fin 3) : k0_off2 (BitVec.ofNat 32 k) 0 = 2 * k ∧ k0_off2 (BitVec.ofNat 32 k) 1 = 0 := by
  revert k; decide +kernel

/-- Where the second shift of a task lies. -/
theorem off3_at (k : Fin 3) : k0_off3 (BitVec.ofNat 32 k) 0 = 2 * k + 1 ∧ k0_off3 (BitVec.ofNat 32 k) 1 = 0 := by
  revert k; decide +kernel

section Values

variable {o : Ops Ideal} {k : Fin 3} (hP : (par o k).Finite) {tk : BitVec 32} (hk : tk = BitVec.ofNat 32 k)
variable (h : ∀ a, (k0_off1 tk) a + S1x256x4.size a ≤ S3x256x4.size a)
variable (x t : Vec Ideal S1024x1024 .f32) (r : Fin 1024)

include hP in
/-- The fused product of a row. -/
theorem v75_at (c : Fin 132) : (v75 x t (prep o tk h) (ix2 r c) : EReal)
    = ∑ j, fused (par o k) (row x r) (row t r) j * (prep o tk h).w1 (ix2 j c) := by
  unfold v75
  rw [feat_at]
  refine Finset.sum_congr rfl fun j _ => congrArg (· * _) ?_
  rw [← Cert.Spec.kln_fused _ _ hP]
  simp only [xn_at, tn_at, wx_at, wt_at, c2_at]
  rfl

include hP in
/-- The hidden units of a row. -/
theorem hid_at (e : Fin 4) (i : Fin 32) : (hid x t (prep o tk h) (ix2 r (flat e i)) : EReal)
    = hidden (par o k) (row x r) (row t r) e i := by
  have hv := v75_at hP h x t r ⟨flat e i, by omega⟩
  have hb := b1_at o tk h e i
  simp only [w1_at] at hv
  unfold hid
  generalize v75 x t (prep o tk h) = v at hv ⊢
  generalize (prep o tk h).b1 = b at hb ⊢
  pointwise [k0_pay28, k0_pay27, k0_pay26]
  exact congrArg₂ (fun p q => max (p + q) 0) hv hb

include hP hk in
/-- The gates of a row. -/
theorem gts_at (e : Fin 4) : (gts x t (prep o tk h) (ix2 r e) : EReal) = gates (par o k) (row x r) (row t r) e := by
  have hl : ∀ e : Fin 4, (k0_pay27 (v75 x t (prep o tk h)) (k0_pay26 (prep o tk h).b1) (ix2 r ⟨128 + (e : ℕ), by omega⟩) : EReal)
      = logit (par o k) (row x r) (row t r) e := fun e => by
    have hv := v75_at hP h x t r ⟨128 + (e : ℕ), by omega⟩
    have hb := b1_gate_at o tk h e
    simp only [w1_gate_at o tk h k hk] at hv
    generalize v75 x t (prep o tk h) = v at hv ⊢
    generalize (prep o tk h).b1 = b at hb ⊢
    pointwise [k0_pay27, k0_pay26]
    rw [hv, hb, add_zero]
    rfl
  rw [← Cert.Spec.kgate_gates _ _ hP]
  unfold gts
  generalize k0_pay26 (prep o tk h).b1 = b at hl ⊢
  generalize v75 x t (prep o tk h) = v at hl ⊢
  pointwise [k0_pay29]
  simp only [hl]
  rfl

include hP hk in
/-- The mixture of a row. -/
theorem moe_at (c : Fin 256) : (k0_pay30 (hid x t (prep o tk h)) (gts x t (prep o tk h)) (prep o tk h).sel (prep o tk h).w2
    (prep o tk h).be2 (ix2 r c) : EReal) = moe (par o k) (row x r) (row t r) c := by
  have hh := hid_at hP h x t r
  have hg := gts_at hP hk h x t r
  have hs := sel_at o tk h
  have hm := Cert.Spec.kmix_eq (h := fun i => hid x t (prep o tk h) (ix2 r i)) (g := gates (par o k) (row x r) (row t r))
    (w := fun i => o.w2 (ix2 i c)) (sel := fun e i => (prep o tk h).sel (ix2 e i)) (fun e => o.be2 (ix2 e c))
    (Cert.Spec.gates_real _ _ hP) hs
  simp only [hh] at hm
  refine Eq.trans ?_ hm
  simp only [← hg, kmix]
  show k0_pay30 (hid x t (prep o tk h)) (gts x t (prep o tk h)) (prep o tk h).sel o.w2 o.be2 (ix2 r c) = _
  generalize hid x t (prep o tk h) = hd
  generalize gts x t (prep o tk h) = g
  generalize (prep o tk h).sel = sel
  pointwise [k0_pay30]

include hP hk in
/-- The first sigmoid of a row. -/
theorem sigX_at : (sigX x t (prep o tk h) (ix2 r 0) : EReal) = sigA (par o k) (row x r) (row t r) := by
  have hm := moe_at hP hk h x t r
  unfold sigX
  pointwise [k0_pay31]
  simp only [hm]
  rfl

include hP hk in
/-- The second sigmoid of a row. -/
theorem sigT_at : (sigT x t (prep o tk h) (ix2 r 0) : EReal) = sigB (par o k) (row x r) (row t r) := by
  have hm := moe_at hP hk h x t r
  unfold sigT
  pointwise [k0_pay32]
  simp only [hm]
  rfl

include hP in
/-- The first output at a row. -/
theorem outX_at (hk : tk = BitVec.ofNat 32 k) (h2 : ∀ a, (k0_off2 tk) a + S1x1024.size a ≤ S6x1024.size a) (j : Fin 1024) :
    (outX x t (prep o tk h) tk h2 (ix2 r j) : EReal)
      = sigA (par o k) (row x r) (row t r) * row x r j + o.ms (ix2 ⟨2 * k, by omega⟩ j) := by
  have hs := sigX_at hP hk h x t r
  obtain ⟨h0, h1⟩ : k0_off2 tk 0 = 2 * k ∧ k0_off2 tk 1 = 0 := hk ▸ off2_at k
  unfold sigX at hs
  unfold outX
  pointwise [k0_pay33, k0_pay19]
  rw [hs]
  exact congrArg (sigA (par o k) (row x r) (row t r) * row x r j + o.ms ·) (ix2_congr (Fin.ext (by simp [h0])) (Fin.ext (by simp [h1])))

include hP in
/-- The second output at a row. -/
theorem outT_at (hk : tk = BitVec.ofNat 32 k) (h2 : ∀ a, (k0_off3 tk) a + S1x1024.size a ≤ S6x1024.size a) (j : Fin 1024) :
    (outT x t (prep o tk h) tk h2 (ix2 r j) : EReal)
      = sigB (par o k) (row x r) (row t r) * row t r j + o.ms (ix2 ⟨2 * k + 1, by omega⟩ j) := by
  have hs := sigT_at hP hk h x t r
  obtain ⟨h0, h1⟩ : k0_off3 tk 0 = 2 * k + 1 ∧ k0_off3 tk 1 = 0 := hk ▸ off3_at k
  unfold sigT at hs
  unfold outT
  pointwise [k0_pay1, k0_pay34, k0_pay35, k0_pay20]
  rw [hs]
  exact congrArg (sigB (par o k) (row x r) (row t r) * row t r j + o.ms ·) (ix2_congr (Fin.ext (by simp [h0])) (Fin.ext (by simp [h1])))

end Values

end Cert.KernelIdeal.Hand
-- ==== Proof.Alg.Whole.lean ====
module

public import proofs.«01_k».proof.Proof.Alg.Model

/-! The results of the whole program as plain functions of the arguments. -/

@[expose] public section

noncomputable section

namespace Cert.Spec

open Idealize.ShloMosaic

variable (P : Par) (x t : Fin 4 → Fin 2048 → Fin 1024 → EReal) (s : Fin 6 → Fin 1024 → EReal) (k : Fin 3)

/-- Row `i` of all the rows. -/
def rowOf (x : Fin 4 → Fin 2048 → Fin 1024 → EReal) (i : Fin 8192) : Fin 1024 → EReal :=
  x ⟨i.val / 2048, by omega⟩ ⟨i.val % 2048, by omega⟩

/-- Row `b * 2048 + n` is row `n` of part `b`. -/
theorem rowOf_at (x : Fin 4 → Fin 2048 → Fin 1024 → EReal) (b : Fin 4) (n : Fin 2048) (i : Fin 8192)
    (h : i.val = b.val * 2048 + n.val) : rowOf x i = x b n :=
  congrArg₂ x (Fin.ext (by show i.val / 2048 = b.val; omega)) (Fin.ext (by show i.val % 2048 = n.val; omega))

/-- The first result: the gated first input, shifted. -/
def resA (b : Fin 4) (n : Fin 2048) (j : Fin 1024) : EReal := sigA P (x b n) (t b n) * x b n j + s ⟨2 * k, by omega⟩ j

/-- The second result: the gated second input, shifted. -/
def resB (b : Fin 4) (n : Fin 2048) (j : Fin 1024) : EReal := sigB P (x b n) (t b n) * t b n j + s ⟨2 * k + 1, by omega⟩ j

/-- An expert's importance: its gates summed over the rows. -/
def imp (e : Fin 4) : EReal := ∑ i : Fin 8192, gates P (rowOf x i) (rowOf t i) e

/-- An expert's load: the number of rows that open its gate. -/
def load (e : Fin 4) : EReal := ∑ i : Fin 8192, if 0 < gates P (rowOf x i) (rowOf t i) e then 1 else 0

/-- The balance loss. -/
def aux : EReal := (cv (imp P x t) + cv (load P x t)) * Ideal.ofBits FTy.f32 0x3C23D70A#32

/-- The float of a comparison's bit. -/
theorem sitofp_bit (p : Prop) [Decidable p] :
    (FloatOps.sitofp (F := Ideal) FTy.f32 (BitVec.setWidth 32 (BitVec.ofBool (decide p))) : EReal) = if p then 1 else 0 := by
  show ((((BitVec.setWidth 32 (BitVec.ofBool (decide p))).toInt : ℤ) : ℝ) : EReal) = _
  by_cases h : p <;> simp [h]

end Cert.Spec
-- ==== Proof.Ideal.Result.lean ====
module

public import proofs.«01_k».proof.Proof.Ideal.Task
public import proofs.«01_k».proof.Proof.Ideal.Rows
public import proofs.«01_k».proof.Proof.Alg.Whole

/-! What the kernel's output arrays hold after the run, over the extended reals, as plain functions of the
    arguments. -/

@[expose] public section

set_option maxRecDepth 16384

noncomputable section

namespace Cert.KernelIdeal.Hand

open Idealize.ShloMosaic Idealize.ShloMosaic.TcCoe Idealize.ShloMosaic.Tactic
open Cert.KernelIdeal.Gen Cert.KernelIdeal
open Cert.Spec (Par Fin' flat gates sigA sigB rowOf resA resB imp load aux cv kcv)

variable (m : (ℓ : Loc nD τ sig) → Buf (Elt Ideal) ℓ) (c : Dev nD)

/-- The first input. -/
def argX (b : Fin 4) (n : Fin 2048) (j : Fin 1024) : EReal := m ((c : Thread nD τ).loc main_arg0) (ix3 b n j)
/-- The second input. -/
def argT (b : Fin 4) (n : Fin 2048) (j : Fin 1024) : EReal := m ((c : Thread nD τ).loc main_arg1) (ix3 b n j)
/-- The shifts. -/
def argS (q : Fin 6) (j : Fin 1024) : EReal := m ((c : Thread nD τ).loc main_arg12) (ix2 q j)
/-- The weights, the gate's at task `k`. -/
def argP (k : Fin 3) : Par where
  g1 j := m ((c : Thread nD τ).loc main_arg2) (ix1 j)
  b1 j := m ((c : Thread nD τ).loc main_arg3) (ix1 j)
  W r j := m ((c : Thread nD τ).loc main_arg4) (ix2 r j)
  g2 j := m ((c : Thread nD τ).loc main_arg5) (ix1 j)
  b2 j := m ((c : Thread nD τ).loc main_arg6) (ix1 j)
  wg j e := m ((c : Thread nD τ).loc main_arg7) (ix3 k j e)
  we1 e j i := m ((c : Thread nD τ).loc main_arg8) (ix3 e j i)
  be1 e i := m ((c : Thread nD τ).loc main_arg9) (ix2 e i)
  we2 e i j := m ((c : Thread nD τ).loc main_arg10) (ix3 e i j)
  be2 e j := m ((c : Thread nD τ).loc main_arg11) (ix2 e j)

/-! The arrays as the region finds them. -/

/-- The first input's rows. -/
theorem v0_at (i : Fin 8192) (k : Fin 1024) : (V m c main_v0 (ix2 i k) : EReal) = rowOf (argX m c) i k := by
  show _ = m ((c : Thread nD τ).loc main_arg0) (ix3 ⟨i.val / 2048, by omega⟩ ⟨i.val % 2048, by omega⟩ k)
  rw [V_after]
  unfold hostOps0
  entry_read
  pointwise

/-- The second input's rows. -/
theorem v1_at (i : Fin 8192) (k : Fin 1024) : (V m c main_v1 (ix2 i k) : EReal) = rowOf (argT m c) i k := by
  show _ = m ((c : Thread nD τ).loc main_arg1) (ix3 ⟨i.val / 2048, by omega⟩ ⟨i.val % 2048, by omega⟩ k)
  rw [V_after]
  unfold hostOps0
  entry_read
  pointwise

/-- The first norm's scale. -/
theorem v3_at (j : Fin 2048) : (V m c main_v3 (ix2 0 j) : EReal) = m ((c : Thread nD τ).loc main_arg2) (ix1 j) := by
  rw [V_after]
  unfold hostOps0
  entry_read
  pointwise

/-- The first norm's shift. -/
theorem v4_at (j : Fin 2048) : (V m c main_v4 (ix2 0 j) : EReal) = m ((c : Thread nD τ).loc main_arg3) (ix1 j) := by
  rw [V_after]
  unfold hostOps0
  entry_read
  pointwise

/-- The second norm's scale. -/
theorem v5_at (j : Fin 256) : (V m c main_v5 (ix2 0 j) : EReal) = m ((c : Thread nD τ).loc main_arg5) (ix1 j) := by
  rw [V_after]
  unfold hostOps0
  entry_read
  pointwise

/-- The second norm's shift. -/
theorem v6_at (j : Fin 256) : (V m c main_v6 (ix2 0 j) : EReal) = m ((c : Thread nD τ).loc main_arg6) (ix1 j) := by
  rw [V_after]
  unfold hostOps0
  entry_read
  pointwise

/-- The second weights with the experts flattened. -/
theorem v7_at (e : Fin 4) (i : Fin 32) (j : Fin 256) :
    (V m c main_v7 (ix2 (flat e i) j) : EReal) = m ((c : Thread nD τ).loc main_arg10) (ix3 e i j) := by
  rw [V_after]
  unfold hostOps0
  entry_read
  pointwise
  refine congrArg (m ((c : Thread nD τ).loc main_arg10)) (ix3_congr (Fin.ext ?_) (Fin.ext ?_) rfl)
  · show (32 * (e : ℕ) + (i : ℕ)) / 32 = _; omega
  · show (32 * (e : ℕ) + (i : ℕ)) % 32 = _; omega

/-- Weights with the same parts are the same. -/
theorem Par.ext' {P Q : Par} (h1 : P.g1 = Q.g1) (h2 : P.b1 = Q.b1) (h3 : P.W = Q.W) (h4 : P.g2 = Q.g2) (h5 : P.b2 = Q.b2)
    (h6 : P.wg = Q.wg) (h7 : P.we1 = Q.we1) (h8 : P.be1 = Q.be1) (h9 : P.we2 = Q.we2) (h10 : P.be2 = Q.be2) : P = Q := by
  cases P; cases Q; simp only at *; subst h1 h2 h3 h4 h5 h6 h7 h8 h9 h10; rfl

/-- The weights read by the body are the arguments. -/
theorem par_eq (k : Fin 3) : par (opsOf m c) k = argP m c k :=
  Par.ext' (funext fun j => v3_at m c j) (funext fun j => v4_at m c j)
    (funext fun r => funext fun j => by show V m c main_arg4 _ = _; rw [V_after]; unfold hostOps0; entry_read; rfl)
    (funext fun j => v5_at m c j) (funext fun j => v6_at m c j)
    (funext fun j => funext fun e => by show V m c main_arg7 _ = _; rw [V_after]; unfold hostOps0; entry_read; rfl)
    (funext fun e => funext fun j => funext fun i => by show V m c main_arg8 _ = _; rw [V_after]; unfold hostOps0; entry_read; rfl)
    (funext fun e => funext fun j => by show V m c main_arg9 _ = _; rw [V_after]; unfold hostOps0; entry_read; rfl)
    (funext fun e => funext fun i => funext fun j => v7_at m c e i j)
    (funext fun e => funext fun j => by show V m c main_arg11 _ = _; rw [V_after]; unfold hostOps0; entry_read; rfl)

/-- The shifts as the body reads them. -/
theorem ms_eq (q : Fin 6) (j : Fin 1024) : ((opsOf m c).ms (ix2 q j) : EReal) = argS m c q j := by
  show V m c main_arg12 _ = _
  rw [V_after]; unfold hostOps0; entry_read; rfl

/-- Row `r` of point `t`. -/
def at' (t : Fin cfg0.N) (r : Fin 1024) : Fin 8192 :=
  ⟨1024 * t.val + r.val, by have := (idx t).2.2.2.2.2.2.2; omega⟩

/-- A row of the first input's block. -/
theorem x_row (t : Fin cfg0.N) (r : Fin 1024) : row (iblk m c 0 t) r = rowOf (argX m c) (at' t r) := by
  funext k
  refine Eq.trans ?_ (v0_at m c (at' t r) k)
  show (iblk m c 0 t (ix2 r k) : EReal) = _
  blk_simp [iblk]
  refine congrArg (V m c main_v0) ?_
  unfold at'
  blk_ext [idx t]

/-- A row of the second input's block. -/
theorem t_row (t : Fin cfg0.N) (r : Fin 1024) : row (iblk m c 1 t) r = rowOf (argT m c) (at' t r) := by
  funext k
  refine Eq.trans ?_ (v1_at m c (at' t r) k)
  show (iblk m c 1 t (ix2 r k) : EReal) = _
  blk_simp [iblk]
  refine congrArg (V m c main_v1) ?_
  unfold at'
  blk_ext [idx t]

/-- The finite arguments. -/
structure Fine (k : Fin 3) : Prop where
  task : m ((c : Thread nD τ).loc main_arg13) ix0 = BitVec.ofNat 32 k
  P : (argP m c k).Finite

variable (hH : Hyps m) {k : Fin 3} (hF : Fine m c k)

include hF

/-- The task's word at a point. -/
theorem tk_k (t : Fin cfg0.N) : tk m c t = BitVec.ofNat 32 k := (tk_eq m c t).trans hF.task

/-- The gates of a row at a point. -/
theorem gAt_at (t : Fin cfg0.N) (r : Fin 1024) (e : Fin 4) :
    (gAt m hH c t (ix2 r e) : EReal) = gates (argP m c k) (rowOf (argX m c) (at' t r)) (rowOf (argT m c) (at' t r)) e := by
  have hP := hF.P
  rw [← par_eq] at hP ⊢
  rw [← x_row, ← t_row]
  exact gts_at hP (tk_k m c hF _) _ _ _ r e

omit hF in
/-- The first output at equal words. -/
theorem outX_word {x t : Vec Ideal S1024x1024 .f32} {q : Carry Ideal} {T T' : BitVec 32} (e : T = T') (h2) :
    outX x t q T h2 = outX x t q T' (e ▸ h2) := by subst e; rfl

omit hF in
/-- The second output at equal words. -/
theorem outT_word {x t : Vec Ideal S1024x1024 .f32} {q : Carry Ideal} {T T' : BitVec 32} (e : T = T') (h2) :
    outT x t q T h2 = outT x t q T' (e ▸ h2) := by subst e; rfl

/-- The first output's block at a point. -/
theorem outX_blk (t : Fin cfg0.N) (h2) (r j : Fin 1024) :
    (outX (iblk m c 0 t) (iblk m c 1 t) (kc m hH c) (tk m c t) h2 (ix2 r j) : EReal)
      = resA (argP m c k) (argX m c) (argT m c) (argS m c) k
          ⟨(at' t r).val / 2048, by omega⟩ ⟨(at' t r).val % 2048, by omega⟩ j := by
  have hP := hF.P
  rw [← par_eq] at hP
  have e0 := tk_k m c hF t00
  rw [outX_word ((tk_k m c hF t).trans e0.symm)]
  refine (outX_at hP _ _ _ r e0 _ j).trans ?_
  rw [par_eq, x_row, t_row, ms_eq]
  rfl

/-- The second output's block at a point. -/
theorem outT_blk (t : Fin cfg0.N) (h2) (r j : Fin 1024) :
    (outT (iblk m c 0 t) (iblk m c 1 t) (kc m hH c) (tk m c t) h2 (ix2 r j) : EReal)
      = resB (argP m c k) (argX m c) (argT m c) (argS m c) k
          ⟨(at' t r).val / 2048, by omega⟩ ⟨(at' t r).val % 2048, by omega⟩ j := by
  have hP := hF.P
  rw [← par_eq] at hP
  have e0 := tk_k m c hF t00
  rw [outT_word ((tk_k m c hF t).trans e0.symm)]
  refine (outT_at hP _ _ _ r e0 _ j).trans ?_
  rw [par_eq, x_row, t_row, ms_eq]
  rfl

/-- The sigmoid columns of a point. -/
theorem sig_blk (t : Fin cfg0.N) (r : Fin 1024) :
    (sigX (iblk m c 0 t) (iblk m c 1 t) (kc m hH c) (ix2 r 0) : EReal)
        = sigA (argP m c k) (rowOf (argX m c) (at' t r)) (rowOf (argT m c) (at' t r))
      ∧ (sigT (iblk m c 0 t) (iblk m c 1 t) (kc m hH c) (ix2 r 0) : EReal)
        = sigB (argP m c k) (rowOf (argX m c) (at' t r)) (rowOf (argT m c) (at' t r)) := by
  have hP := hF.P
  rw [← par_eq] at hP ⊢
  rw [← x_row, ← t_row]
  exact ⟨sigX_at hP (tk_k m c hF _) _ _ _ r, sigT_at hP (tk_k m c hF _) _ _ _ r⟩

omit hF in
/-- The first output array. -/
def arrA (k : Fin 3) : FVec Ideal S8192x1024 .f32 := fun y =>
  resA (argP m c k) (argX m c) (argT m c) (argS m c) k
    ⟨(y 0).val / 2048, by have : (y 0).val < 8192 := (y 0).isLt; omega⟩ ⟨(y 0).val % 2048, by omega⟩ (y 1)

/-- The second output array. -/
def arrB (k : Fin 3) : FVec Ideal S8192x1024 .f32 := fun y =>
  resB (argP m c k) (argX m c) (argT m c) (argS m c) k
    ⟨(y 0).val / 2048, by have : (y 0).val < 8192 := (y 0).isLt; omega⟩ ⟨(y 0).val % 2048, by omega⟩ (y 1)

/-- The two sigmoids of all rows. -/
def arrP (k : Fin 3) : FVec Ideal S2x8x8x128 .f32 := fun y =>
  let i : Fin 8192 := ⟨1024 * (y 1).val + 128 * (y 2).val + (y 3).val, by
    have : (y 1).val < 8 := (y 1).isLt
    have : (y 2).val < 8 := (y 2).isLt
    have : (y 3).val < 128 := (y 3).isLt
    omega⟩
  if (y 0).val = 0 then sigA (argP m c k) (rowOf (argX m c) i) (rowOf (argT m c) i)
  else sigB (argP m c k) (rowOf (argX m c) i) (rowOf (argT m c) i)

/-- The first output after the last point. -/
theorem arr3 : (dats m hH 0 c).arrAt 3 cfg0.N = arrA m c k := by
  refine (dats m hH 0 c).arrAt_eq_of_covers 3 _ (by decide +kernel) fun t hf y => ?_
  blk_simp
  rw [after0_3]
  rw [eq_ix2 y]
  refine (outX_blk m c hH hF t _ (y 0) (y 1)).trans ?_
  show arrA m c k (ix2 (at' t (y 0)) (y 1)) = _
  refine congrArg (arrA m c k) ?_
  unfold at'
  blk_ext [idx t]

/-- The second output after the last point. -/
theorem arr4 : (dats m hH 0 c).arrAt 4 cfg0.N = arrB m c k := by
  refine (dats m hH 0 c).arrAt_eq_of_covers 4 _ (by decide +kernel) fun t hf y => ?_
  blk_simp
  rw [after0_4]
  rw [eq_ix2 y]
  refine (outT_blk m c hH hF t _ (y 0) (y 1)).trans ?_
  show arrB m c k (ix2 (at' t (y 0)) (y 1)) = _
  refine congrArg (arrB m c k) ?_
  unfold at'
  blk_ext [idx t]

omit hF in
/-- A slab of the first sigmoid. -/
theorem pay2_at (v : FVec Ideal S1024x1 .f32) (a b : Fin 1) (p : Fin 8) (q : Fin 128) :
    (k0_pay2 v (ix4 a b p q) : EReal) = v (ix2 ⟨128 * p.val + q.val, by omega⟩ 0) := by
  pointwise [k0_pay2]
  exact congrArg v (ix2_congr (Fin.ext (by simp only; omega)) rfl)

omit hF in
/-- A slab of the second sigmoid. -/
theorem pay3_at (v : FVec Ideal S1024x1 .f32) (a b : Fin 1) (p : Fin 8) (q : Fin 128) :
    (k0_pay3 v (ix4 a b p q) : EReal) = v (ix2 ⟨128 * p.val + q.val, by omega⟩ 0) := by
  pointwise [k0_pay3]
  exact congrArg v (ix2_congr (Fin.ext (by simp only; omega)) rfl)

omit hF in
/-- The first sigmoid's slab of the array. -/
theorem arrP_zero (Y : S2x8x8x128.Idx) (i : Fin 8192) (h0 : (Y 0).val = 0)
    (hi : i.val = 1024 * (Y 1).val + 128 * (Y 2).val + (Y 3).val) :
    arrP m c k Y = sigA (argP m c k) (rowOf (argX m c) i) (rowOf (argT m c) i) := by
  unfold arrP
  rw [if_pos h0, show i = ⟨_, hi ▸ i.isLt⟩ from Fin.ext hi]

omit hF in
/-- The second sigmoid's slab of the array. -/
theorem arrP_one (Y : S2x8x8x128.Idx) (i : Fin 8192) (h0 : (Y 0).val = 1)
    (hi : i.val = 1024 * (Y 1).val + 128 * (Y 2).val + (Y 3).val) :
    arrP m c k Y = sigB (argP m c k) (rowOf (argX m c) i) (rowOf (argT m c) i) := by
  unfold arrP
  rw [if_neg (by omega), show i = ⟨_, hi ▸ i.isLt⟩ from Fin.ext hi]

/-- The sigmoids' output after the last point. -/
theorem arr5 : (dats m hH 0 c).arrAt 5 cfg0.N = arrP m c k := by
  refine (dats m hH 0 c).arrAt_eq_of_covers 5 _ (by decide +kernel) fun t hf y => ?_
  blk_simp
  rw [after0_5]
  have e0 : ((win0_5.blk t).view.emb y 0 : ℕ) = y 0 := by blk_simp [idx t]
  have e1 : ((win0_5.blk t).view.emb y 1 : ℕ) = t.val + y 1 := by blk_simp [idx t]
  have e2 : ((win0_5.blk t).view.emb y 2 : ℕ) = y 2 := by blk_simp [idx t]
  have e3 : ((win0_5.blk t).view.emb y 3 : ℕ) = y 3 := by blk_simp [idx t]
  generalize (win0_5.blk t).view.emb y = Y at e0 e1 e2 e3 ⊢
  unfold outP
  canon_tiles x h using cover_P _ _ y
  · rw [eq_ix4 x]
    refine (pay3_at _ _ _ _ _).trans ((sig_blk m c hH hF t _).2.trans ?_)
    exact (arrP_one m c Y _ (by omega) (by unfold at'; simp only; omega)).symm
  · rw [eq_ix4 x]
    refine (pay2_at _ _ _ _ _).trans ((sig_blk m c hH hF t _).1.trans ?_)
    exact (arrP_zero m c Y _ (by omega) (by unfold at'; simp only; omega)).symm

omit hF in
/-- A block's sum of gates. -/
theorem pay4_at (g : FVec Ideal S1024x4 .f32) (e : Fin 4) : (k0_pay4 g (ix2 0 e) : EReal) = ∑ r : Fin 1024, g (ix2 r e) := by
  pointwise [k0_pay4]

omit hF in
/-- A block's number of open gates. -/
theorem pay5_at (g : FVec Ideal S1024x4 .f32) (e : Fin 4) :
    (k0_pay5 g (ix2 0 e) : EReal) = ∑ r : Fin 1024, if (0 : EReal) < g (ix2 r e) then 1 else 0 := by
  pointwise [k0_pay5]
  exact Finset.sum_congr rfl fun r _ => Cert.Spec.sitofp_bit _

/-- The gate of expert `e` at row `i`, naught past the last row. -/
def gN (k : Fin 3) (e : Fin 4) (i : ℕ) : EReal :=
  if h : i < 8192 then gates (argP m c k) (rowOf (argX m c) ⟨i, h⟩) (rowOf (argT m c) ⟨i, h⟩) e else 0

/-- The gates of a point are the rows' gates. -/
theorem gAt_gN (t : Fin cfg0.N) (r : Fin 1024) (e : Fin 4) : (gAt m hH c t (ix2 r e) : EReal) = gN m c k e (1024 * t.val + r.val) := by
  rw [gAt_at m c hH hF, gN, dif_pos (show 1024 * t.val + r.val < 8192 from (at' t r).isLt)]
  rfl

omit hF in
/-- A sum over one block more. -/
theorem sum_block (f : ℕ → EReal) (n : ℕ) : ∑ i ∈ Finset.range (1024 * (n + 1)), f i
    = ∑ i ∈ Finset.range (1024 * n), f i + ∑ r : Fin 1024, f (1024 * n + r.val) := by
  rw [show 1024 * (n + 1) = 1024 * n + 1024 by ring, Finset.sum_range_add, Finset.sum_range fun x => f (1024 * n + x)]

/-- The sums of the gates, and the numbers of open gates, up to a point. -/
theorem acc_at (e : Fin 4) : ∀ n (h : n < cfg0.N),
    ((acc m hH c n h).1 (ix2 0 e) : EReal) = ∑ i ∈ Finset.range (1024 * (n + 1)), gN m c k e i
      ∧ ((acc m hH c n h).2 (ix2 0 e) : EReal) = ∑ i ∈ Finset.range (1024 * (n + 1)), if 0 < gN m c k e i then 1 else 0
  | 0, h => by
    show (k0_pay6 (gAt m hH c ⟨0, h⟩) (ix2 0 e) : EReal) = _ ∧ (k0_pay7 (gAt m hH c ⟨0, h⟩) (ix2 0 e) : EReal) = _
    have hg := gAt_gN m c hH hF ⟨0, h⟩
    generalize gAt m hH c ⟨0, h⟩ = g at hg ⊢
    rw [sum_block, sum_block]
    constructor
    · pointwise [k0_pay6]
      rw [pay4_at]
      simp [hg]
    · pointwise [k0_pay7]
      rw [pay5_at]
      simp [hg]
  | n + 1, h => by
    show (k0_pay8 (gAt m hH c ⟨n + 1, h⟩) (acc m hH c n (Nat.lt_of_succ_lt h)).1 (ix2 0 e) : EReal) = _
      ∧ (k0_pay9 (gAt m hH c ⟨n + 1, h⟩) (acc m hH c n (Nat.lt_of_succ_lt h)).2 (ix2 0 e) : EReal) = _
    have hg := gAt_gN m c hH hF ⟨n + 1, h⟩
    have ih := acc_at e n (Nat.lt_of_succ_lt h)
    generalize gAt m hH c ⟨n + 1, h⟩ = g at hg ⊢
    generalize acc m hH c n (Nat.lt_of_succ_lt h) = a at ih ⊢
    rw [sum_block _ (n + 1), sum_block _ (n + 1)]
    constructor
    · pointwise [k0_pay8]
      rw [pay4_at, ih.1]
      simp only [hg]
    · pointwise [k0_pay9]
      rw [pay5_at, ih.2]
      simp only [hg]

omit hF in
/-- The sum over all rows. -/
theorem sum_all (f : ℕ → EReal) (F : Fin 8192 → EReal) (hf : ∀ i : Fin 8192, f i.val = F i) :
    ∑ i ∈ Finset.range (1024 * (7 + 1)), f i = ∑ i, F i := by
  rw [show 1024 * (7 + 1) = 8192 by norm_num, Finset.sum_range]
  exact Finset.sum_congr rfl fun i _ => hf i

/-- The last point's sums are importance and load. -/
theorem acc_last (e : Fin 4) (h : 7 < cfg0.N) :
    ((acc m hH c 7 h).1 (ix2 0 e) : EReal) = imp (argP m c k) (argX m c) (argT m c) e
      ∧ ((acc m hH c 7 h).2 (ix2 0 e) : EReal) = load (argP m c k) (argX m c) (argT m c) e := by
  obtain ⟨h1, h2⟩ := acc_at m c hH hF e 7 h
  exact ⟨h1.trans (sum_all _ _ fun i => by rw [gN, dif_pos i.isLt]), h2.trans (sum_all _ _ fun i => by rw [gN, dif_pos i.isLt])⟩

omit hF in
/-- The balance loss of two rows. -/
theorem pay10_at (a b : FVec Ideal S1x4 .f32) (A B : Fin 4 → EReal) (ha : ∀ e, (a (ix2 0 e) : EReal) = A e)
    (hb : ∀ e, (b (ix2 0 e) : EReal) = B e) :
    (k0_pay10 (F := Ideal) a b (ix2 0 0) : EReal) = (cv A + cv B) * Ideal.ofBits FTy.f32 0x3C23D70A#32 := by
  rw [← Cert.Spec.kcv_eq, ← Cert.Spec.kcv_eq]
  pointwise [k0_pay10]
  simp only [ha, hb]
  rw [IdealRules.named_const.ideal_named_scalar κ "third" (φ := .f32) 1051372203#32 ((1 / 3 : ℝ) : EReal) (by simp [κ])]
  rfl

/-- The scalar output array. -/
def arrL (k : Fin 3) : FVec Ideal S1x1 .f32 := fun _ => aux (argP m c k) (argX m c) (argT m c)

omit hF in
/-- The last point. -/
def tEnd : Fin cfg0.N := ⟨7, by rw [show cfg0.N = 8 from N_0]; decide⟩

/-- The loss's output after the last point. -/
theorem arr6 : (dats m hH 0 c).arrAt 6 cfg0.N = arrL m c k := by
  refine (dats m hH 0 c).arrAt_eq_of_after_last 6 tEnd (by decide +kernel) _ fun j => ?_
  refine (congrFun (after0_6 m hH c tEnd) _).trans ?_
  have h := acc_last m c hH hF
  refine Eq.trans (congrArg _ (?_ : _ = ix2 (0 : Fin 1) (0 : Fin 1))) (pay10_at _ _ _ _ (fun e => (h e tEnd.isLt).1) (fun e => (h e tEnd.isLt).2))
  exact funext fun a => Fin.ext (by
    have h1 : (j a).val < ![1, 1] a := (j a).isLt
    fin_cases a <;> simp at h1 ⊢ <;> omega)

omit hF in
/-- A window's array as the region leaves it. -/
theorem exit_at (w : Fin cfg0.W) :
    Pipeline.withArrays spec0 c (V0 m c) (fun w => (dats m hH 0 c).arrAt w cfg0.N) (Proc.devRef .tc (Pipeline.arrRef spec0 w))
      = (dats m hH 0 c).arrAt w cfg0.N :=
  Pipeline.withArrays_arr spec0 (by decide) c (V0 m c) (fun w => (dats m hH 0 c).arrAt w cfg0.N) w

/-- The first result. -/
theorem tail_v9 : Pipeline.afterTail₀ cfgs (dats m hH) 0 (V0 m) [hostOps1] c main_v9
    = fun y : S4x2048x1024.Idx => resA (argP m c k) (argX m c) (argT m c) (argS m c) k (y 0) (y 1) (y 2) := by
  have hW := (exit_at m c hH 3).trans (arr3 m c hH hF)
  show StableHlo.after (hostOps1 ++ []) (Pipeline.withArrays spec0 c (V0 m c) (fun w => (dats m hH 0 c).arrAt w cfg0.N)) (Proc.devRef .tc main_v9) = _
  generalize Pipeline.withArrays spec0 c (V0 m c) (fun w => (dats m hH 0 c).arrAt w cfg0.N) = W at hW ⊢
  rw [List.append_nil]
  unfold hostOps1
  after_results
  rw [show W (Proc.devRef .tc main_v8_0) = arrA m c k from hW]
  generalize hA : arrA m c k = A
  funext y
  rw [eq_ix3 y]
  show (shapeCast S4x2048x1024 A shapeCasts_S8192x1024_S4x2048x1024 (ix3 (y 0) (y 1) (y 2)) : EReal) = _
  pointwise
  subst hA
  have h0 : (y 0).val < 4 := (y 0).isLt
  have h1 : (y 1).val < 2048 := (y 1).isLt
  refine congrArg₂ (fun b n => resA (argP m c k) (argX m c) (argT m c) (argS m c) k b n (y 2)) (Fin.ext ?_) (Fin.ext ?_)
  · show ((y 0).val * 2048 + (y 1).val) / 2048 = (y 0).val; omega
  · show ((y 0).val * 2048 + (y 1).val) % 2048 = (y 1).val; omega

/-- The second result. -/
theorem tail_v10 : Pipeline.afterTail₀ cfgs (dats m hH) 0 (V0 m) [hostOps1] c main_v10
    = fun y : S4x2048x1024.Idx => resB (argP m c k) (argX m c) (argT m c) (argS m c) k (y 0) (y 1) (y 2) := by
  have hW := (exit_at m c hH 4).trans (arr4 m c hH hF)
  show StableHlo.after (hostOps1 ++ []) (Pipeline.withArrays spec0 c (V0 m c) (fun w => (dats m hH 0 c).arrAt w cfg0.N)) (Proc.devRef .tc main_v10) = _
  generalize Pipeline.withArrays spec0 c (V0 m c) (fun w => (dats m hH 0 c).arrAt w cfg0.N) = W at hW ⊢
  rw [List.append_nil]
  unfold hostOps1
  after_results
  rw [show W (Proc.devRef .tc main_v8_1) = arrB m c k from hW]
  generalize hA : arrB m c k = A
  funext y
  rw [eq_ix3 y]
  show (shapeCast S4x2048x1024 A shapeCasts_S8192x1024_S4x2048x1024 (ix3 (y 0) (y 1) (y 2)) : EReal) = _
  pointwise
  subst hA
  have h0 : (y 0).val < 4 := (y 0).isLt
  have h1 : (y 1).val < 2048 := (y 1).isLt
  refine congrArg₂ (fun b n => resB (argP m c k) (argX m c) (argT m c) (argS m c) k b n (y 2)) (Fin.ext ?_) (Fin.ext ?_)
  · show ((y 0).val * 2048 + (y 1).val) / 2048 = (y 0).val; omega
  · show ((y 0).val * 2048 + (y 1).val) % 2048 = (y 1).val; omega

/-- The first sigmoid. -/
theorem tail_v13 : Pipeline.afterTail₀ cfgs (dats m hH) 0 (V0 m) [hostOps1] c main_v13
    = fun y : S4x2048x1.Idx => sigA (argP m c k) (argX m c (y 0) (y 1)) (argT m c (y 0) (y 1)) := by
  have hW := (exit_at m c hH 5).trans (arr5 m c hH hF)
  show StableHlo.after (hostOps1 ++ []) (Pipeline.withArrays spec0 c (V0 m c) (fun w => (dats m hH 0 c).arrAt w cfg0.N)) (Proc.devRef .tc main_v13) = _
  generalize Pipeline.withArrays spec0 c (V0 m c) (fun w => (dats m hH 0 c).arrAt w cfg0.N) = W at hW ⊢
  rw [List.append_nil]
  unfold hostOps1
  after_results
  rw [show W (Proc.devRef .tc main_v8_2) = arrP m c k from hW]
  generalize hA : arrP m c k = A
  funext y
  rw [eq_ix3 y]
  show (shapeCast S4x2048x1 (shapeCast S8x8x128 (extractStridedSlice S1x8x8x128 ![0, 0, 0, 0] A slices_S2x8x8x128_S1x8x8x128_0_0_0_0) shapeCasts_S1x8x8x128_S8x8x128) shapeCasts_S8x8x128_S4x2048x1 (ix3 (y 0) (y 1) (y 2)) : EReal) = _
  pointwise
  subst hA
  have h0 : (y 0).val < 4 := (y 0).isLt
  have h1 : (y 1).val < 2048 := (y 1).isLt
  refine (arrP_zero m c _ ⟨(y 0).val * 2048 + (y 1).val, by omega⟩ rfl ?_).trans ?_
  · show (y 0).val * 2048 + (y 1).val = 1024 * ((y 0).val * 2 + (y 1).val / 1024) + 128 * ((y 1).val / 128 % 8) + (y 1).val % 128
    omega
  · rw [Cert.Spec.rowOf_at _ (y 0) (y 1) _ rfl, Cert.Spec.rowOf_at _ (y 0) (y 1) _ rfl]

/-- The second sigmoid. -/
theorem tail_v16 : Pipeline.afterTail₀ cfgs (dats m hH) 0 (V0 m) [hostOps1] c main_v16
    = fun y : S4x2048x1.Idx => sigB (argP m c k) (argX m c (y 0) (y 1)) (argT m c (y 0) (y 1)) := by
  have hW := (exit_at m c hH 5).trans (arr5 m c hH hF)
  show StableHlo.after (hostOps1 ++ []) (Pipeline.withArrays spec0 c (V0 m c) (fun w => (dats m hH 0 c).arrAt w cfg0.N)) (Proc.devRef .tc main_v16) = _
  generalize Pipeline.withArrays spec0 c (V0 m c) (fun w => (dats m hH 0 c).arrAt w cfg0.N) = W at hW ⊢
  rw [List.append_nil]
  unfold hostOps1
  after_results
  rw [show W (Proc.devRef .tc main_v8_2) = arrP m c k from hW]
  generalize hA : arrP m c k = A
  funext y
  rw [eq_ix3 y]
  show (shapeCast S4x2048x1 (shapeCast S8x8x128 (extractStridedSlice S1x8x8x128 ![1, 0, 0, 0] A slices_S2x8x8x128_S1x8x8x128_1_0_0_0) shapeCasts_S1x8x8x128_S8x8x128) shapeCasts_S8x8x128_S4x2048x1 (ix3 (y 0) (y 1) (y 2)) : EReal) = _
  pointwise
  subst hA
  have h0 : (y 0).val < 4 := (y 0).isLt
  have h1 : (y 1).val < 2048 := (y 1).isLt
  refine (arrP_one m c _ ⟨(y 0).val * 2048 + (y 1).val, by omega⟩ rfl ?_).trans ?_
  · show (y 0).val * 2048 + (y 1).val = 1024 * ((y 0).val * 2 + (y 1).val / 1024) + 128 * ((y 1).val / 128 % 8) + (y 1).val % 128
    omega
  · rw [Cert.Spec.rowOf_at _ (y 0) (y 1) _ rfl, Cert.Spec.rowOf_at _ (y 0) (y 1) _ rfl]

/-- The balance loss. -/
theorem tail_v17 : Pipeline.afterTail₀ cfgs (dats m hH) 0 (V0 m) [hostOps1] c main_v17
    = fun _ => aux (argP m c k) (argX m c) (argT m c) := by
  have hW := (exit_at m c hH 6).trans (arr6 m c hH hF)
  show StableHlo.after (hostOps1 ++ []) (Pipeline.withArrays spec0 c (V0 m c) (fun w => (dats m hH 0 c).arrAt w cfg0.N)) (Proc.devRef .tc main_v17) = _
  generalize Pipeline.withArrays spec0 c (V0 m c) (fun w => (dats m hH 0 c).arrAt w cfg0.N) = W at hW ⊢
  rw [List.append_nil]
  unfold hostOps1
  after_results
  rw [show W (Proc.devRef .tc main_v8_3) = arrL m c k from hW]
  generalize hA : arrL m c k = A
  funext y
  show (shapeCast S_ A shapeCasts_S1x1_S_ y : EReal) = _
  subst hA
  rfl

omit hF in
include hH in
/-- The run, at the results: gated inputs, sigmoids and balance loss. -/
theorem values (ρ : Dev nD → PrngReg) (ks : Dev nD → Fin 3) (hF : ∀ c, Fine m c (ks c)) :
    θ_run defs (onTc (τ := τ) (main (F := Ideal))) ⟨m, fun _ => 0, ρ⟩ (fun r => ∀ c : Dev nD,
      r.2.mem ((c.tc : Thread nD τ).loc main_v9) = (fun y : S4x2048x1024.Idx =>
        resA (argP m c (ks c)) (argX m c) (argT m c) (argS m c) (ks c) (y 0) (y 1) (y 2))
      ∧ r.2.mem ((c.tc : Thread nD τ).loc main_v10) = (fun y : S4x2048x1024.Idx =>
        resB (argP m c (ks c)) (argX m c) (argT m c) (argS m c) (ks c) (y 0) (y 1) (y 2))
      ∧ r.2.mem ((c.tc : Thread nD τ).loc main_v13) = (fun y : S4x2048x1.Idx =>
        sigA (argP m c (ks c)) (argX m c (y 0) (y 1)) (argT m c (y 0) (y 1)))
      ∧ r.2.mem ((c.tc : Thread nD τ).loc main_v16) = (fun y : S4x2048x1.Idx =>
        sigB (argP m c (ks c)) (argX m c (y 0) (y 1)) (argT m c (y 0) (y 1)))
      ∧ r.2.mem ((c.tc : Thread nD τ).loc main_v17) = (fun _ => aux (argP m c (ks c)) (argX m c) (argT m c))) :=
  (θ_run defs _ _).mono (fun r h c => by
    refine ⟨(h.rest_eq c main_v9 (by decide)).trans (tail_v9 m c hH (hF c)),
      (h.rest_eq c main_v10 (by decide)).trans (tail_v10 m c hH (hF c)),
      (h.rest_eq c main_v13 (by decide)).trans (tail_v13 m c hH (hF c)),
      (h.rest_eq c main_v16 (by decide)).trans (tail_v16 m c hH (hF c)),
      (h.rest_eq c main_v17 (by decide)).trans (tail_v17 m c hH (hF c))⟩) (run_main m ρ hH)

end Cert.KernelIdeal.Hand
-- ==== Proof.Reference.Rows.lean ====
module

public import proofs.«01_k».proof.Proof.Gen.ReferenceIdeal.Run
public import Idealize.ShloMosaic.Lib.Pointwise
public import proofs.«01_k».proof.Proof.Alg.Whole

/-! The reference's arrays over the extended reals, row by row: projections, features and logits. -/

@[expose] public section

set_option maxRecDepth 16384

noncomputable section

namespace Cert.ReferenceIdeal.Alg

open Idealize.ShloMosaic Idealize.ShloMosaic.TcCoe Idealize.ShloMosaic.Tactic
open Cert.ReferenceIdeal.Gen Cert.ReferenceIdeal Cert.ReferenceIdeal.Value
open Cert.Spec (Par Fin' cat mean var ln proj fused logit gates rowOf)

variable (V : Valuation τ sig (Elt Ideal))

/-- The first input. -/
def argX (b : Fin 4) (n : Fin 2048) (j : Fin 1024) : EReal := V (Proc.devRef .tc main_arg0) (ix3 b n j)
/-- The second input. -/
def argT (b : Fin 4) (n : Fin 2048) (j : Fin 1024) : EReal := V (Proc.devRef .tc main_arg1) (ix3 b n j)
/-- The shifts. -/
def argS (q : Fin 6) (j : Fin 1024) : EReal := V (Proc.devRef .tc main_arg12) (ix2 q j)
/-- The weights, the gate's at task `k`. -/
def argP (k : Fin 3) : Par where
  g1 j := V (Proc.devRef .tc main_arg2) (ix1 j)
  b1 j := V (Proc.devRef .tc main_arg3) (ix1 j)
  W r j := V (Proc.devRef .tc main_arg4) (ix2 r j)
  g2 j := V (Proc.devRef .tc main_arg5) (ix1 j)
  b2 j := V (Proc.devRef .tc main_arg6) (ix1 j)
  wg j e := V (Proc.devRef .tc main_arg7) (ix3 k j e)
  we1 e j i := V (Proc.devRef .tc main_arg8) (ix3 e j i)
  be1 e i := V (Proc.devRef .tc main_arg9) (ix2 e i)
  we2 e i j := V (Proc.devRef .tc main_arg10) (ix3 e i j)
  be2 e j := V (Proc.devRef .tc main_arg11) (ix2 e j)

/-- Triples with equal parts. -/
theorem ix3_congr {a b c : ℕ} {i i' : Fin a} {j j' : Fin b} {k k' : Fin c} (h1 : i = i') (h2 : j = j') (h3 : k = k') :
    ix3 i j k = ix3 i' j' k' := by
  subst h1 h2 h3; rfl

/-- The two inputs of a row side by side. -/
theorem v0_at (b : Fin 4) (n : Fin 2048) (j : Fin 2048) :
    (res_main_v0 V (ix3 b n j) : EReal) = cat (argX V b n) (argT V b n) j := by
  unfold cat argX argT
  pointwise [res_main_v0]

/-- The mean of a row. -/
theorem v4_at (b : Fin 4) (n : Fin 2048) :
    (res_main_v4 V (ix3 b n 0) : EReal) = mean (Ideal.ofBits FTy.f32 0x45000000#32) (cat (argX V b n) (argT V b n)) := by
  unfold mean
  pointwise [res_main_v4]
  simp only [v0_at]

/-- A row less its mean. -/
theorem v6_at (b : Fin 4) (n j : Fin 2048) :
    (res_main_v6 V (ix3 b n j) : EReal) = cat (argX V b n) (argT V b n) j - mean (Ideal.ofBits FTy.f32 0x45000000#32) (cat (argX V b n) (argT V b n)) := by
  pointwise [res_main_v6]
  rw [v0_at, v4_at]

/-- The projected row. -/
theorem v26_at (k : Fin 3) (b : Fin 4) (n : Fin 2048) (r : Fin 256) :
    (res_main_v26 V (ix3 b n r) : EReal) = proj (cat (argX V b n) (argT V b n)) (argP V k).g1 (argP V k).b1 ((argP V k).W r) := by
  unfold proj ln var Cert.Spec.eps
  pointwise [res_main_v26]
  simp only [v0_at, v4_at, v6_at]
  rfl

/-- The mean of the projected row. -/
theorem v30_at (k : Fin 3) (b : Fin 4) (n : Fin 2048) :
    (res_main_v30 V (ix3 b n 0) : EReal) = mean (Ideal.ofBits FTy.f32 0x43800000#32)
      (fun r => proj (cat (argX V b n) (argT V b n)) (argP V k).g1 (argP V k).b1 ((argP V k).W r)) := by
  unfold mean
  pointwise [res_main_v30]
  simp only [v26_at V k]

/-- The projected row less its mean. -/
theorem v32_at (k : Fin 3) (b : Fin 4) (n : Fin 2048) (r : Fin 256) :
    (res_main_v32 V (ix3 b n r) : EReal) = proj (cat (argX V b n) (argT V b n)) (argP V k).g1 (argP V k).b1 ((argP V k).W r)
      - mean (Ideal.ofBits FTy.f32 0x43800000#32)
      (fun r => proj (cat (argX V b n) (argT V b n)) (argP V k).g1 (argP V k).b1 ((argP V k).W r)) := by
  pointwise [res_main_v32]
  rw [v26_at V k, v30_at V k]

/-- The fused features of a row. -/
theorem v51_at (k : Fin 3) (i : Fin 8192) (j : Fin 256) :
    (res_main_v51 V (ix2 i j) : EReal) = fused (argP V k) (rowOf (argX V) i) (rowOf (argT V) i) j := by
  unfold fused ln var Cert.Spec.eps
  pointwise [res_main_v51]
  simp only [v26_at V k, v30_at V k, v32_at V k]
  rfl

/-- A task's word, wrapped from below, is the task. -/
theorem word_pos (k : Fin 3) : (Scalar.select (IntOp.cmpi .slt (BitVec.ofNat 32 k) 0#32) (IntOp.addi (BitVec.ofNat 32 k) 3#32) (BitVec.ofNat 32 k)).toInt
    = k.val := by
  revert k; decide

/-- The start of the task's slab of gate weights. -/
theorem start_gate (k : Fin 3) (w : (⟨S_, .i32⟩ : BufTy).Contents (Elt Ideal)) (hk : w ix0 = BitVec.ofNat 32 k) (h) :
    (∀ a : Fin 3, (Host.clampedStart S3x256x4 S1x256x4 h (fun k => BitVec.toInt (((![select (cmpi .slt w (constantI S_ 32 0#32)) (addi w (constantI S_ 32 3#32)) w,
      select (cmpi .slt (constantI S_ 32 0#32) (constantI S_ 32 0#32)) (addi (constantI S_ 32 0#32) (constantI S_ 32 256#32)) (constantI S_ 32 0#32),
      select (cmpi .slt (constantI S_ 32 0#32) (constantI S_ 32 0#32)) (addi (constantI S_ 32 0#32) (constantI S_ 32 4#32)) (constantI S_ 32 0#32)] :
        Fin 3 → (⟨S_, .i32⟩ : BufTy).Contents (Elt Ideal))) k (Shape.Idx.first h_S_))) a : ℕ) = ![k.val, 0, 0] a) := by
  have h0 : (select (cmpi .slt w (constantI S_ 32 0#32)) (addi w (constantI S_ 32 3#32)) w (Shape.Idx.first h_S_)).toInt = k.val := by
    show (Scalar.select (IntOp.cmpi .slt (w (Shape.Idx.first h_S_)) 0#32) (IntOp.addi (w (Shape.Idx.first h_S_)) 3#32) (w (Shape.Idx.first h_S_))).toInt = _
    rw [show (Shape.Idx.first h_S_ : S_.Idx) = ix0 from funext fun a => a.elim0, hk]
    exact word_pos k
  intro a
  unfold Host.clampedStart
  fin_cases a
  · simp only [Fin.zero_eta, Matrix.cons_val_zero, h0]
    show (min (max (k.val : ℤ) 0) ((3 - 1 : ℕ) : ℤ)).toNat = k.val
    omega
  · show (min (max (BitVec.toInt (Scalar.select (IntOp.cmpi .slt 0#32 0#32) (IntOp.addi 0#32 256#32) 0#32)) 0) ((256 - 256 : ℕ) : ℤ)).toNat = 0
    decide
  · show (min (max (BitVec.toInt (Scalar.select (IntOp.cmpi .slt 0#32 0#32) (IntOp.addi 0#32 4#32) 0#32)) 0) ((4 - 4 : ℕ) : ℤ)).toNat = 0
    decide

/-- The logits of a row. -/
theorem v63_at (k : Fin 3) (hk : V (Proc.devRef .tc main_arg13) ix0 = BitVec.ofNat 32 k) (i : Fin 8192) (e : Fin 4) :
    (res_main_v63 V (ix2 i e) : EReal) = logit (argP V k) (rowOf (argX V) i) (rowOf (argT V) i) e := by
  unfold logit
  pointwise [res_main_v63]
  simp only [v51_at V k]
  refine congrArg (fun f : Fin 256 → EReal => ∑ j, f j) (funext fun j => congrArg (fused (argP V k) (rowOf (argX V) i) (rowOf (argT V) i) j * ·) ?_)
  have hs := start_gate k _ hk sliceFits_S3x256x4_S1x256x4.1
  refine congrArg (V (Proc.devRef .tc main_arg7)) (ix3_congr (Fin.ext (hs 0)) (Fin.ext ?_) (Fin.ext ?_))
  · exact (congrArg (· + j.val) (hs 1)).trans (Nat.zero_add _)
  · exact (congrArg (· + e.val) (hs 2)).trans (Nat.zero_add _)

end Cert.ReferenceIdeal.Alg
-- ==== Proof.Reference.Gates.lean ====
module

public import proofs.«01_k».proof.Proof.Reference.Rows
public import Idealize.ShloMosaic.Lib.Routing.OpsPair
public import Idealize.ShloMosaic.Lib.Routing.OpsSet

/-! The reference's gates over the extended reals: the two largest logits of a row, their softmax, and the scatter. -/

@[expose] public section

set_option maxRecDepth 16384

noncomputable section

namespace Cert.ReferenceIdeal.Alg

open Idealize.ShloMosaic Idealize.ShloMosaic.TcCoe Idealize.ShloMosaic.Tactic
open Cert.ReferenceIdeal.Gen Cert.ReferenceIdeal Cert.ReferenceIdeal.Value
open Cert.Spec (Par Fin' cat mean var ln proj fused logit gates rowOf order mx soft gate)

variable (V : Valuation τ sig (Elt Ideal))

/-- The logits of row `i`. -/
def lg (i : Fin 8192) (e : Fin 4) : EReal := res_main_v63 V (ix2 i e)

/-- A row's index with another column. -/
theorem along_at (i : Fin 8192) (e k : Fin 4) : (ix2 i e : S8192x4.Idx).along (1 : Fin 2) k = ix2 i k := by
  funext a
  fin_cases a <;> rfl

/-- A row sorted with the largest first. -/
theorem sort_at (x : FVec Ideal S8192x4 .f32) (I : IVec S8192x4 32) (i : Fin 8192) (e : Fin 4) :
    ((Host.sort2 S8192x4 1 (fun l r => FloatOps.cmpfTotal (F := Ideal) (φ := .f32) .gt l.1 r.1) x I).1 (ix2 i e) : EReal)
        = x (ix2 i (order (fun e => x (ix2 i e)) e))
      ∧ (Host.sort2 S8192x4 1 (fun l r => FloatOps.cmpfTotal (F := Ideal) (φ := .f32) .gt l.1 r.1) x I).2 (ix2 i e)
        = I (ix2 i (order (fun e => x (ix2 i e)) e)) := by
  have hR : (fun k k' : Fin 4 => FloatOps.cmpfTotal (F := Ideal) (φ := .f32) .gt (x ((ix2 i e : S8192x4.Idx).along (1 : Fin 2) k))
      (x ((ix2 i e : S8192x4.Idx).along (1 : Fin 2) k')) == 1#1) = fun a b => decide ((x (ix2 i b) : EReal) < x (ix2 i a)) := by
    funext a b
    rw [along_at, along_at]
    show (BitVec.ofBool (decide ((x (ix2 i b) : EReal) < x (ix2 i a))) == 1#1) = _
    cases decide ((x (ix2 i b) : EReal) < x (ix2 i a)) <;> rfl
  have hs : (ix2 i e : S8192x4.Idx).along (1 : Fin 2) (sortedFrom (fun k k' : Fin 4 => FloatOps.cmpfTotal (F := Ideal) (φ := .f32) .gt
      (x ((ix2 i e : S8192x4.Idx).along (1 : Fin 2) k)) (x ((ix2 i e : S8192x4.Idx).along (1 : Fin 2) k')) == 1#1) e)
      = ix2 i (order (fun e => x (ix2 i e)) e) := by
    rw [hR]; exact along_at i e _
  exact ⟨congrArg x hs, congrArg I hs⟩

/-- The sorted logits' first two columns. -/
theorem values_at (i : Fin 8192) (k : Fin 2) :
    (res_main_values V (ix2 i k) : EReal) = lg V i (order (lg V i) ⟨k.val, by omega⟩) := by
  pointwise [res_main_values, Host.topK]
  exact (sort_at (res_main_v63 V) _ i ⟨k.val, by omega⟩).1

/-- The sorted columns' first two indices. -/
theorem indices_at (i : Fin 8192) (k : Fin 2) :
    (res_main_indices V (ix2 i k) : BitVec 32) = BitVec.ofNat 32 (order (lg V i) ⟨k.val, by omega⟩).val := by
  pointwise [res_main_indices, Host.topK]
  exact (sort_at (res_main_v63 V) _ i ⟨k.val, by omega⟩).2

/-- The larger of a row of two, folded. -/
theorem fold_two (v : FVec Ideal S8192x2 .f32) (i : Fin 8192) :
    Finset.fold max (Ideal.ofBits FTy.f32 0xFF800000#32) (fun y : S8192x2.Idx => (v y : EReal))
      {y | reducesTo_S8192x2_S8192_d1.drop y = ix1 i} = mx fun k : Fin 2 => v (ix2 i k) := by
  have : (Finset.univ.filter fun y : S8192x2.Idx => reducesTo_S8192x2_S8192_d1.drop y = ix1 i)
      = (Finset.univ : Finset (Fin 2)).map ⟨fun k => (ix2 i k : S8192x2.Idx), fun a b h => ((ix2_inj ..).mp h).2⟩ := by
    ext y
    simp only [Finset.mem_filter, Finset.mem_univ, true_and, Finset.mem_map, Function.Embedding.coeFn_mk]
    rw [eq_ix2 y]
    constructor
    · intro h
      refine ⟨y 1, ?_⟩
      have h0 := congrFun h 0
      have : y 0 = i := by
        exact h0
      exact congrArg (fun a => (ix2 a (y 1) : S8192x2.Idx)) this.symm
    · rintro ⟨k, hk⟩
      rw [← hk]
      funext a
      fin_cases a; rfl
  rw [this, Finset.fold_map]
  rfl

/-- The two largest logits. -/
def vals (i : Fin 8192) (k : Fin 2) : EReal := res_main_values V (ix2 i k)

/-- The exponentials of the two largest logits. -/
theorem v70_at (i : Fin 8192) (k : Fin 2) :
    (res_main_v70 V (ix2 i k) : EReal) = Ideal.exp (vals V i k
      - max (Ideal.ofBits FTy.f32 0xFF800000#32) (mx (vals V i))) := by
  have h := fold_two (res_main_values V) i
  pointwise [res_main_v70]
  exact congrArg (fun z => Ideal.exp ((vals V i k : EReal) - max (Ideal.ofBits FTy.f32 0xFF800000#32) z)) h

/-- The softmax of the two largest logits. -/
theorem soft_at (i : Fin 8192) (k : Fin 2) :
    Ideal.div (res_main_v70 V (ix2 i k)) (∑ j : Fin 2, (res_main_v70 V (ix2 i j) : EReal))
      = soft (vals V i) k := by
  unfold soft
  simp only [v70_at]

/-- The row numbers. -/
theorem v77_at (i : Fin 8192) : (res_main_v77 V (ix2 i 0) : BitVec 32) = BitVec.ofNat 32 i.val := by
  pointwise [res_main_v77]

/-- An update lands at its row and its column. -/
theorem lands (idx : IVec S8192x2x2 32) (o : Fin 8192 → Fin 2 → Fin 4)
    (h0 : ∀ i k, idx (ix3 i k 0) = BitVec.ofNat 32 i.val) (h1 : ∀ i k, idx (ix3 i k 1) = BitVec.ofNat 32 (o i k).val)
    (a : Fin 8192) (b : Fin 2) (i : Fin 8192) (e : Fin 4) :
    scatter_S8192x4_S8192x2x2_S8192x2_n_01_01_2.resultIdx? (ix2 a b) idx = some (ix2 i e) ↔ a = i ∧ o a b = e := by
  have h := Routing.scatter_lands2 scatter_S8192x4_S8192x2x2_S8192x2_n_01_01_2 rfl rfl rfl idx a b i e
  have t0 : (idx (ix3 a b 0)).toInt = a.val := by
    rw [h0, BitVec.toInt_eq_toNat_of_lt (by rw [BitVec.toNat_ofNat]; omega), BitVec.toNat_ofNat]; omega
  have t1 : (idx (ix3 a b 1)).toInt = (o a b).val := by
    rw [h1, BitVec.toInt_eq_toNat_of_lt (by rw [BitVec.toNat_ofNat]; omega), BitVec.toNat_ofNat]; omega
  refine h.trans ?_
  rw [show (idx (ValueIdx.ix3 a b 0)).toInt = a.val from t0, show (idx (ValueIdx.ix3 a b 1)).toInt = (o a b).val from t1]
  constructor
  · rintro ⟨x, y⟩; exact ⟨Fin.ext (by exact_mod_cast x), Fin.ext (by exact_mod_cast y)⟩
  · rintro ⟨rfl, rfl⟩; exact ⟨rfl, rfl⟩

/-- The scattered array, entry by entry. -/
theorem scatter_at (x0 : FVec Ideal S8192x4 .f32) (idx : IVec S8192x2x2 32) (upd : FVec Ideal S8192x2 .f32) (o : Fin 8192 → Fin 2 → Fin 4)
    (h0 : ∀ i k, idx (ix3 i k 0) = BitVec.ofNat 32 i.val) (h1 : ∀ i k, idx (ix3 i k 1) = BitVec.ofNat 32 (o i k).val)
    (hne : ∀ i, o i 1 ≠ o i 0) (i : Fin 8192) (e : Fin 4) :
    Host.scatter scatter_S8192x4_S8192x2x2_S8192x2_n_01_01_2 (fun _ b => b) x0 idx upd (ix2 i e)
      = if e = o i 0 then upd (ix2 i 0) else if e = o i 1 then upd (ix2 i 1) else x0 (ix2 i e) := by
  have hl := lands idx o h0 h1
  have hit : ∀ b : Fin 2, o i b = e → Host.scatter scatter_S8192x4_S8192x2x2_S8192x2_n_01_01_2 (fun _ b => b) x0 idx upd (ix2 i e) = upd (ix2 i b) := by
    intro b hb
    refine Routing.scatter_set_hit _ x0 idx upd (ix2 i e) (upd (ix2 i b)) (fun k hk => ?_) (ix2 i b) ((hl i b i e).mpr ⟨rfl, hb⟩)
    rw [eq_ix2 k] at hk ⊢
    obtain ⟨ha, hb'⟩ := (hl _ _ _ _).mp hk
    have : k 1 = b := by
      have hb'' : o i (k 1) = o i b := by rw [hb, ← hb', ha]
      by_contra hc
      have hn := hne i
      generalize (k 1 : Fin 2) = z at hb'' hc
      have hd : ∀ z b : Fin 2, ¬z = b → z = 0 ∧ b = 1 ∨ z = 1 ∧ b = 0 := by decide
      rcases hd z b hc with ⟨hz, hb⟩ | ⟨hz, hb⟩
      · rw [hz, hb] at hb''; exact hn hb''.symm
      · rw [hz, hb] at hb''; exact hn hb''
    exact congrArg₂ (fun a b => upd (ix2 a b)) ha this
  by_cases e0 : e = o i 0
  · rw [if_pos e0, hit 0 e0.symm]
  · rw [if_neg e0]
    by_cases e1 : e = o i 1
    · rw [if_pos e1, hit 1 e1.symm]
    · rw [if_neg e1]
      refine Routing.scatter_set_miss _ x0 idx upd (ix2 i e) fun k hk => ?_
      rw [eq_ix2 k] at hk
      obtain ⟨ha, hb⟩ := (hl _ _ _ _).mp hk
      rw [ha] at hb
      generalize (k 1 : Fin 2) = z at hb
      fin_cases z
      · exact e0 hb.symm
      · exact e1 hb.symm

/-- A small word is not negative. -/
theorem word_wrap (n : ℕ) (hn : n < 8192) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

/-- An expert's gate. -/
theorem v92_at (hl : ∀ i e, Fin' (lg V i e)) (i : Fin 8192) (e : Fin 4) :
    (res_main_v92 V (ix2 i e) : EReal) = gate (lg V i) (order (lg V i) 0) (order (lg V i) 1) e := by
  unfold res_main_v92
  have ht := Cert.Spec.top2_order (lg V i)
  refine (scatter_at _ _ _ (fun i k => order (lg V i) ⟨k.val, by omega⟩) ?_ ?_ (fun i => (Cert.Spec.top2_order (lg V i)).ne) i e).trans ?_
  · intro i k
    pointwise
    rw [v77_at]
    exact word_wrap i.val i.isLt _
  · intro i k
    pointwise
    rw [indices_at]
    exact word_wrap _ (by omega) _
  · have hv : vals V i = ![lg V i (order (lg V i) 0), lg V i (order (lg V i) 1)] := by
      funext k
      refine (values_at V i k).trans ?_
      fin_cases k <;> rfl
    have hs := Cert.Spec.soft_gate (hl i) ht
    rw [← hv] at hs
    split
    · next h =>
      subst h
      rw [show (⟨(0 : Fin 2).val, by omega⟩ : Fin 4) = 0 from rfl, ← hs.1, ← soft_at]
      pointwise
    · split
      · next h =>
        subst h
        rw [show (⟨(1 : Fin 2).val, by omega⟩ : Fin 4) = 1 from rfl, ← hs.2, ← soft_at]
        pointwise
      · next h h' =>
        unfold gate
        rw [if_neg (show ¬e = order (lg V i) 0 from h), if_neg (show ¬e = order (lg V i) 1 from h')]
        pointwise

end Cert.ReferenceIdeal.Alg
-- ==== Proof.Reference.Result.lean ====
module

public import proofs.«01_k».proof.Proof.Reference.Gates
public import Idealize.ShloMosaic.Lib.IndicatorCount

/-! The reference's results over the extended reals as plain functions of the arguments. -/

@[expose] public section

set_option maxRecDepth 16384

noncomputable section

namespace Cert.ReferenceIdeal.Alg

open Idealize.ShloMosaic Idealize.ShloMosaic.TcCoe Idealize.ShloMosaic.Tactic Idealize.ShloMosaic.StableHlo
open Cert.ReferenceIdeal.Gen Cert.ReferenceIdeal Cert.ReferenceIdeal.Value
open Cert.Spec (Par Fin' fused logit gates rowOf order gate moe mix sigA sigB resA resB imp aux cv)

variable (V : Valuation τ sig (Elt Ideal))

/-- The finite arguments. -/
structure Fine (k : Fin 3) : Prop where
  task : V (Proc.devRef .tc main_arg13) ix0 = BitVec.ofNat 32 k
  P : (argP V k).Finite

variable {k : Fin 3} (hF : Fine V k)

include hF

/-- The logits of a row. -/
theorem lg_eq (i : Fin 8192) : lg V i = logit (argP V k) (rowOf (argX V) i) (rowOf (argT V) i) :=
  funext fun e => v63_at V k hF.task i e

/-- An expert's gate. -/
theorem gates_at (i : Fin 8192) (e : Fin 4) :
    (res_main_v92 V (ix2 i e) : EReal) = gates (argP V k) (rowOf (argX V) i) (rowOf (argT V) i) e := by
  rw [v92_at V (fun i e => by rw [lg_eq V hF]; exact Cert.Spec.logit_fin _ _ hF.P e) i e, lg_eq V hF]
  rfl

/-- The mixture. -/
theorem v127_at (b : Fin 4) (n : Fin 2048) (c : Fin 256) :
    (res_main_v127 V (ix3 b n c) : EReal) = moe (argP V k) (argX V b n) (argT V b n) c := by
  unfold moe mix Cert.Spec.hidden
  pointwise [res_main_v127]
  have ex : ∀ h, rowOf (argX V) ⟨b.val * 2048 + n.val, h⟩ = argX V b n := fun h => Cert.Spec.rowOf_at _ _ _ _ rfl
  have et : ∀ h, rowOf (argT V) ⟨b.val * 2048 + n.val, h⟩ = argT V b n := fun h => Cert.Spec.rowOf_at _ _ _ _ rfl
  simp only [gates_at V hF, v51_at V k, ex, et]
  refine congrArg (fun f : Fin 4 → EReal => ∑ e, f e) (funext fun e => ?_)
  rfl

/-- Importance. -/
theorem v93_at (e : Fin 4) : (res_main_v93 V (ix1 e) : EReal) = imp (argP V k) (argX V) (argT V) e := by
  unfold imp
  pointwise [res_main_v93]
  simp only [gates_at V hF]

omit hF in
/-- A column's entries. -/
theorem col_at (e : Fin 4) : (Finset.univ.filter fun y : S8192x4.Idx => reducesTo_S8192x4_S4_d0.drop y = ix1 e)
      = (Finset.univ : Finset (Fin 8192)).map ⟨fun i => (ix2 i e : S8192x4.Idx), fun a b h => ((ix2_inj ..).mp h).1⟩ := by
  ext y
  simp only [Finset.mem_filter, Finset.mem_univ, true_and, Finset.mem_map, Function.Embedding.coeFn_mk]
  rw [eq_ix2 y]
  constructor
  · intro h
    have : y 1 = e := congrFun h 0
    exact ⟨y 0, congrArg (fun a => (ix2 (y 0) a : S8192x4.Idx)) this.symm⟩
  · rintro ⟨k, hk⟩
    rw [← hk]
    funext a
    fin_cases a; rfl

omit hF in
/-- The float of a count of rows. -/
theorem count_at (p : Fin 8192 → Prop) [DecidablePred p] :
    (FloatOps.sitofp (F := Ideal) FTy.f32 (Finset.fold IntOp.addi (0#32) (fun i => BitVec.setWidth 32 (BitVec.ofBool (decide (p i)))) Finset.univ) : EReal)
      = ∑ i, if p i then 1 else 0 := by
  rw [IndicatorCount.fold_addi_setWidth_eq_card]
  have hc : (Finset.univ.filter fun i => BitVec.ofBool (decide (p i)) = 1#1) = Finset.univ.filter p := by
    ext i; by_cases h : p i <;> simp [h]
  rw [hc]
  have hb : (Finset.univ.filter p).card ≤ 8192 := (Finset.card_le_univ _).trans (by simp)
  show ((((BitVec.ofNat 32 (Finset.univ.filter p).card).toInt : ℤ) : ℝ) : EReal) = _
  rw [BitVec.toInt_eq_toNat_of_lt (by rw [BitVec.toNat_ofNat]; omega), BitVec.toNat_ofNat, Nat.mod_eq_of_lt (by omega)]
  rw [Finset.sum_boole]
  push_cast
  rfl

/-- Load. -/
theorem v98_at (e : Fin 4) : (res_main_v98 V (ix1 e) : EReal) = Cert.Spec.load (argP V k) (argX V) (argT V) e := by
  unfold Cert.Spec.load
  have hc := count_at fun i => 0 < gates (argP V k) (rowOf (argX V) i) (rowOf (argT V) i) e
  refine Eq.trans ?_ hc
  have hf : Finset.fold IntOp.addi (0#32) (fun y : S8192x4.Idx => BitVec.setWidth 32 (BitVec.ofBool (decide ((0 : EReal) < res_main_v92 V y))))
      (Finset.univ.filter fun y : S8192x4.Idx => reducesTo_S8192x4_S4_d0.drop y = ix1 e)
      = Finset.fold IntOp.addi (0#32) (fun i => BitVec.setWidth 32 (BitVec.ofBool (decide (0 < gates (argP V k) (rowOf (argX V) i) (rowOf (argT V) i) e)))) Finset.univ := by
    rw [col_at, Finset.fold_map]
    refine congrArg (fun f => Finset.fold IntOp.addi (0#32) f Finset.univ) (funext fun i => ?_)
    show BitVec.setWidth 32 (BitVec.ofBool (decide ((0 : EReal) < res_main_v92 V (ix2 i e)))) = _
    rw [gates_at V hF]
  pointwise [res_main_v98]
  exact congrArg (FloatOps.sitofp (F := Ideal) FTy.f32) hf

/-- The variance of the importances. -/
theorem c5_at (e : Fin 4) : (res_main_call0_v5 V (ix1 e) : EReal) = imp (argP V k) (argX V) (argT V) e
    - Ideal.div (∑ j, imp (argP V k) (argX V) (argT V) j) (Ideal.ofBits FTy.f32 0x40800000#32) := by
  pointwise [res_main_call0_v5]
  simp only [v93_at V hF]

/-- The deviation of a load from the mean load. -/
theorem d5_at (e : Fin 4) : (res_main_call1_v5 V (ix1 e) : EReal) = Cert.Spec.load (argP V k) (argX V) (argT V) e
    - Ideal.div (∑ j, Cert.Spec.load (argP V k) (argX V) (argT V) j) (Ideal.ofBits FTy.f32 0x40800000#32) := by
  pointwise [res_main_call1_v5]
  simp only [v98_at V hF]

/-- The mean importance. -/
theorem v101_at : (res_main_v101 V ix0 : EReal) = Ideal.div (∑ j, imp (argP V k) (argX V) (argT V) j) (Ideal.ofBits FTy.f32 0x40800000#32) := by
  pointwise [res_main_v101]
  simp only [v93_at V hF]

/-- The mean load. -/
theorem v107_at : (res_main_v107 V ix0 : EReal) = Ideal.div (∑ j, Cert.Spec.load (argP V k) (argX V) (argT V) j) (Ideal.ofBits FTy.f32 0x40800000#32) := by
  pointwise [res_main_v107]
  simp only [v98_at V hF]

omit hF in
/-- The divisor of the unbiased variance. -/
theorem c8_at : (res_main_call0_v8 V ix0 : EReal) = ((3 : ℝ) : EReal) := by
  pointwise [res_main_call0_v8]
  rw [Cert.Spec.four]
  show ((4 : ℝ) : EReal) - ((((1#32 : BitVec 32).toInt : ℤ) : ℝ) : EReal) = _
  rw [← EReal.coe_sub]
  norm_num

omit hF in
/-- The divisor of the loads' unbiased variance. -/
theorem d8_at : (res_main_call1_v8 V ix0 : EReal) = ((3 : ℝ) : EReal) := c8_at V

/-- The first sigmoid of a row. -/
theorem sigA_at (b : Fin 4) (n : Fin 2048) :
    Ideal.div 1 (1 + Ideal.exp (-Ideal.div (∑ x : Fin 128, (res_main_v127 V (ix3 b n ⟨x.val, by omega⟩) : EReal)) (Ideal.ofBits FTy.f32 0x43000000#32)))
      = sigA (argP V k) (argX V b n) (argT V b n) := by
  simp only [v127_at V hF]
  rfl

/-- The second sigmoid of a row. -/
theorem sigB_at (b : Fin 4) (n : Fin 2048) :
    Ideal.div 1 (1 + Ideal.exp (-Ideal.div (∑ x : Fin 128, (res_main_v127 V (ix3 b n ⟨128 + x.val, by omega⟩) : EReal)) (Ideal.ofBits FTy.f32 0x43000000#32)))
      = sigB (argP V k) (argX V b n) (argT V b n) := by
  simp only [v127_at V hF]
  rfl

/-- The word of the first shift's row. -/
theorem v153_at : res_main_v153 V ix0 = IntOp.addi (IntOp.muli (BitVec.ofNat 32 k) 2#32) (BitVec.ofNat 32 (0 : Fin 2)) := by
  rw [← hF.task]; rfl

/-- The word of the second shift's row. -/
theorem v168_at : res_main_v168 V ix0 = IntOp.addi (IntOp.muli (BitVec.ofNat 32 k) 2#32) (BitVec.ofNat 32 (1 : Fin 2)) := by
  rw [← hF.task]; rfl

omit hF in
/-- The loss from its parts. -/
theorem cv_at (a : Fin 4 → EReal) (v : Fin 4 → EReal) (d mu z : EReal)
    (hv : ∀ e, v e = a e - Ideal.div (∑ j, a j) (Ideal.ofBits FTy.f32 0x40800000#32)) (hd : d = ((3 : ℝ) : EReal))
    (hmu : mu = Ideal.div (∑ j, a j) (Ideal.ofBits FTy.f32 0x40800000#32)) :
    Ideal.div (if 0 < d then Ideal.div (∑ x, v x * v x) d else z) (mu * mu + Ideal.ofBits FTy.f32 0x2EDBE6FF#32) = cv a := by
  subst hd hmu
  rw [if_pos (by exact_mod_cast three_pos)]
  unfold cv
  simp only [hv]

omit hF in
/-- A task's word doubled and moved, wrapped from below, is the row of the shifts. -/
theorem word_shift (k : Fin 3) (d : Fin 2) : (Scalar.select (IntOp.cmpi .slt (IntOp.addi (IntOp.muli (BitVec.ofNat 32 k) 2#32) (BitVec.ofNat 32 d)) 0#32)
    (IntOp.addi (IntOp.addi (IntOp.muli (BitVec.ofNat 32 k) 2#32) (BitVec.ofNat 32 d)) 6#32)
    (IntOp.addi (IntOp.muli (BitVec.ofNat 32 k) 2#32) (BitVec.ofNat 32 d))).toInt = ((2 * k.val + d.val : ℕ) : ℤ) := by
  revert k d; decide

omit hF in
/-- The start of the task's shift. -/
theorem start_shift (k : Fin 3) (d : Fin 2) (w : (⟨S_, .i32⟩ : BufTy).Contents (Elt Ideal))
    (hk : w ix0 = IntOp.addi (IntOp.muli (BitVec.ofNat 32 k) 2#32) (BitVec.ofNat 32 d)) (h) :
    (∀ a : Fin 2, (Host.clampedStart S6x1024 S1x1024 h (fun k => BitVec.toInt (((![select (cmpi .slt w (constantI S_ 32 0#32)) (addi w (constantI S_ 32 6#32)) w,
      select (cmpi .slt (constantI S_ 32 0#32) (constantI S_ 32 0#32)) (addi (constantI S_ 32 0#32) (constantI S_ 32 1024#32)) (constantI S_ 32 0#32)] :
        Fin 2 → (⟨S_, .i32⟩ : BufTy).Contents (Elt Ideal))) k (Shape.Idx.first h_S_))) a : ℕ) = ![2 * k.val + d.val, 0] a) := by
  have h0 : (select (cmpi .slt w (constantI S_ 32 0#32)) (addi w (constantI S_ 32 6#32)) w (Shape.Idx.first h_S_)).toInt = ((2 * k.val + d.val : ℕ) : ℤ) := by
    show (Scalar.select (IntOp.cmpi .slt (w (Shape.Idx.first h_S_)) 0#32) (IntOp.addi (w (Shape.Idx.first h_S_)) 6#32) (w (Shape.Idx.first h_S_))).toInt = _
    rw [show (Shape.Idx.first h_S_ : S_.Idx) = ix0 from funext fun a => a.elim0, hk]
    exact word_shift k d
  intro a
  unfold Host.clampedStart
  fin_cases a
  · simp only [Fin.zero_eta, Matrix.cons_val_zero, h0]
    show (min (max ((2 * k.val + d.val : ℕ) : ℤ) 0) ((6 - 1 : ℕ) : ℤ)).toNat = 2 * k.val + d.val
    omega
  · show (min (max (BitVec.toInt (Scalar.select (IntOp.cmpi .slt 0#32 0#32) (IntOp.addi 0#32 1024#32) 0#32)) 0) ((1024 - 1024 : ℕ) : ℤ)).toNat = 0
    decide

omit hF in
/-- The run, at the results: gated inputs, sigmoids and balance loss. -/
theorem values (m : (ℓ : Loc nD τ sig) → Buf (Elt Ideal) ℓ) (ρ : Dev nD → PrngReg) (ks : Dev nD → Fin 3)
    (hF : ∀ c, Fine (launchContents m c) (ks c)) :
    θ_run defs (onTc (τ := τ) (main (F := Ideal))) ⟨m, fun _ => 0, ρ⟩ (fun r => ∀ c : Dev nD,
      r.2.mem ((c.tc : Thread nD τ).loc main_v164) = (fun y : S4x2048x1024.Idx =>
        resA (argP (launchContents m c) (ks c)) (argX (launchContents m c)) (argT (launchContents m c)) (argS (launchContents m c)) (ks c) (y 0) (y 1) (y 2))
      ∧ r.2.mem ((c.tc : Thread nD τ).loc main_v179) = (fun y : S4x2048x1024.Idx =>
        resB (argP (launchContents m c) (ks c)) (argX (launchContents m c)) (argT (launchContents m c)) (argS (launchContents m c)) (ks c) (y 0) (y 1) (y 2))
      ∧ r.2.mem ((c.tc : Thread nD τ).loc main_v139) = (fun y : S4x2048x1.Idx =>
        sigA (argP (launchContents m c) (ks c)) (argX (launchContents m c) (y 0) (y 1)) (argT (launchContents m c) (y 0) (y 1)))
      ∧ r.2.mem ((c.tc : Thread nD τ).loc main_v149) = (fun y : S4x2048x1.Idx =>
        sigB (argP (launchContents m c) (ks c)) (argX (launchContents m c) (y 0) (y 1)) (argT (launchContents m c) (y 0) (y 1)))
      ∧ r.2.mem ((c.tc : Thread nD τ).loc main_v112) = (fun _ =>
        aux (argP (launchContents m c) (ks c)) (argX (launchContents m c)) (argT (launchContents m c)))) :=
  (θ_run defs _ _).mono (fun r h c => by
    have hc := h c
    have hF := hF c
    generalize ks c = k at hF ⊢
    generalize launchContents m c = V at hF hc ⊢
    refine ⟨hc.1.trans ?_, hc.2.1.trans ?_, hc.2.2.1.trans ?_, hc.2.2.2.1.trans ?_, hc.2.2.2.2.1.trans ?_⟩
    all_goals clear hc h
    · funext y
      obtain ⟨b, n, j, rfl⟩ : ∃ (b : Fin 4) (n : Fin 2048) (j : Fin 1024), y = ix3 b n j := ⟨_, _, _, eq_ix3 y⟩
      pointwise
      have hs := start_shift k 0 _ (v153_at V hF) sliceFits_S6x1024_S1x1024.1
      refine congrArg₂ (· + ·) (congrArg (· * V (Proc.devRef .tc main_arg0) (ix3 b n j)) (sigA_at V hF b n)) ?_
      refine congrArg (V (Proc.devRef .tc main_arg12)) (congrArg₂ ix2 (Fin.ext (hs 0)) (Fin.ext ?_))
      exact (congrArg (· + j.val) (hs 1)).trans (Nat.zero_add _)
    · funext y
      obtain ⟨b, n, j, rfl⟩ : ∃ (b : Fin 4) (n : Fin 2048) (j : Fin 1024), y = ix3 b n j := ⟨_, _, _, eq_ix3 y⟩
      pointwise
      have hs := start_shift k 1 _ (v168_at V hF) sliceFits_S6x1024_S1x1024.1
      refine congrArg₂ (· + ·) (congrArg (· * V (Proc.devRef .tc main_arg1) (ix3 b n j)) (sigB_at V hF b n)) ?_
      refine congrArg (V (Proc.devRef .tc main_arg12)) (congrArg₂ ix2 (Fin.ext (hs 0)) (Fin.ext ?_))
      exact (congrArg (· + j.val) (hs 1)).trans (Nat.zero_add _)
    · funext y
      obtain ⟨b, n, z, rfl⟩ : ∃ (b : Fin 4) (n : Fin 2048) (z : Fin 1), y = ix3 b n z := ⟨_, _, _, eq_ix3 y⟩
      pointwise
      exact sigA_at V hF b n
    · funext y
      obtain ⟨b, n, z, rfl⟩ : ∃ (b : Fin 4) (n : Fin 2048) (z : Fin 1), y = ix3 b n z := ⟨_, _, _, eq_ix3 y⟩
      pointwise
      exact sigB_at V hF b n
    · funext y
      obtain rfl : y = ix0 := funext fun a => a.elim0
      pointwise
      exact congrArg (· * Ideal.ofBits FTy.f32 0x3C23D70A#32) (congrArg₂ (· + ·)
        (cv_at _ _ _ _ _ (c5_at V hF) (c8_at V) (v101_at V hF)) (cv_at _ _ _ _ _ (d5_at V hF) (d8_at V) (v107_at V hF)))) (run m ρ)

end Cert.ReferenceIdeal.Alg
-- ==== Proof.PreFinite.lean ====
module

public import proofs.«01_k».proof.Proof.Pre
public import Idealize.ShloMosaic.Lib.ReduceAll
public import Idealize.ShloMosaic.Lib.WordCmp
public import Idealize.ShloMosaic.Lib.Pointwise

/-! What the value claim's precondition says: the task index is below three, and four of the weights are finite. -/

@[expose] public section

set_option maxRecDepth 16384

noncomputable section

namespace Cert.Pre

open Idealize.ShloMosaic

/-- The shape facts of `finite_weights`. -/
instance facts_finite : Cert.Pre_finite_weights.Facts := by
  constructor <;> first | decide | decide +kernel

/-- Below infinity in magnitude is: neither infinity. -/
theorem finite_of {s u : Shape} {axes : List (Fin s.rank)} [Subsingleton u.Idx] (x : FVec Ideal s .f32)
    (dims : Fin u.rank → Fin s.rank) (hb : u.BroadcastsInDim s dims) (h : s.ReducesTo axes u) (hu : 0 < u.numel) (j : u.Idx)
    (e : Host.reduce IntOp.andi (cmpf .olt (Host.absf x) (broadcastInDim s dims hb (constant u .f32 0x7F800000#32)))
      (constantI u 1 1#1) h hu = fun _ => 1#1) (i : s.Idx) : x i ≠ ⊤ ∧ x i ≠ ⊥ := by
  have h1 := Host.reduce_andi_all _ _ h hu j (congrFun e j) i
  have h2 : Ideal.cmp .olt (max (x i) (-(x i))) (Ideal.ofBits .f32 0x7F800000#32) = 1#1 := h1
  have ht : Ideal.ofBits .f32 0x7F800000#32 = ⊤ := by simp [Ideal.ofBits, Ideal.ieee]
  rw [ht] at h2
  have h3 : max (x i) (-(x i)) < ⊤ := by
    by_contra hn
    rw [show Ideal.cmp .olt (max (x i) (-(x i))) ⊤ = BitVec.ofBool (decide (max (x i) (-(x i)) < ⊤)) from rfl,
      decide_eq_false hn] at h2
    exact absurd h2 (by decide)
  rw [max_lt_iff] at h3
  refine ⟨h3.1.ne, fun hb => ?_⟩
  rw [hb] at h3
  exact absurd h3.2 (by simp)

/-- What `finite_weights` says of the arguments that it reads. -/
structure Finite (a4 : FVec Ideal Pre_finite_weights.S256x2048 .f32) (a5 a6 : FVec Ideal Pre_finite_weights.S256 .f32)
    (a7 : FVec Ideal Pre_finite_weights.S3x256x4 .f32) (w : IVec Pre_finite_weights.S_ 32) : Prop where
  task : (w ix0).toNat < 3
  wred : ∀ i, a4 i ≠ ⊤ ∧ a4 i ≠ ⊥
  g2 : ∀ i, a5 i ≠ ⊤ ∧ a5 i ≠ ⊥
  b2 : ∀ i, a6 i ≠ ⊤ ∧ a6 i ≠ ⊥
  wg : ∀ i, a7 i ≠ ⊤ ∧ a7 i ≠ ⊥

/-- A scalar has one index. -/
instance : Subsingleton Pre_finite_weights.S_.Idx := ⟨fun a b => funext fun k => k.elim0⟩

/-- The precondition of the value claim, read. -/
theorem finite_weights (a0 a1 : FVec Ideal Pre_finite_weights.S4x2048x1024 .f32) (a2 a3 : FVec Ideal Pre_finite_weights.S2048 .f32)
    (a4 : FVec Ideal Pre_finite_weights.S256x2048 .f32) (a5 a6 : FVec Ideal Pre_finite_weights.S256 .f32)
    (a7 : FVec Ideal Pre_finite_weights.S3x256x4 .f32) (a8 : FVec Ideal Pre_finite_weights.S4x256x32 .f32)
    (a9 : FVec Ideal Pre_finite_weights.S4x32 .f32) (a10 : FVec Ideal Pre_finite_weights.S4x32x256 .f32)
    (a11 : FVec Ideal Pre_finite_weights.S4x256 .f32) (a12 : FVec Ideal Pre_finite_weights.S6x1024 .f32)
    (w : IVec Pre_finite_weights.S_ 32)
    (h : Pre_finite_weights.fn a0 a1 a2 a3 a4 a5 a6 a7 a8 a9 a10 a11 a12 w = fun _ => 1#1) :
    Finite a4 a5 a6 a7 w := by
  unfold Pre_finite_weights.fn Pre_finite_weights.fn_part1 at h
  obtain ⟨h, h7⟩ := andi_one h
  obtain ⟨h, h6⟩ := andi_one h
  obtain ⟨h, h5⟩ := andi_one h
  obtain ⟨h, h4⟩ := andi_one h
  exact ⟨word_lt h, finite_of _ _ _ _ _ ix0 h4, finite_of _ _ _ _ _ ix0 h5, finite_of _ _ _ _ _ ix0 h6, finite_of _ _ _ _ _ ix0 h7⟩

end Cert.Pre
-- ==== Proof.Value.lean ====
module

public import proofs.«01_k».proof.Defs
public import proofs.«01_k».proof.Proof.Ideal.Result
public import proofs.«01_k».proof.Proof.Reference.Result
public import proofs.«01_k».proof.Proof.PreFinite
public import Idealize.ShloMosaic.Lib.Claim

/-! The value claim: from memories that agree on the arguments, the ideal program and the reference end with the
    same five results, since both end with the same plain functions of the arguments. -/

@[expose] public section

set_option maxRecDepth 16384

noncomputable section

namespace Cert.Proof

open Idealize.ShloMosaic Idealize.ShloMosaic.StableHlo Idealize.SL.Sem
open Cert.Spec (Par sigA sigB resA resB aux)

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- On one device, the two programs' memories hold the same arguments. -/
structure Agree (c : Dev KernelIdeal.nD) : Prop where
  x : ReferenceIdeal.Alg.argX (launchContents m' c) = KernelIdeal.Hand.argX m c
  t : ReferenceIdeal.Alg.argT (launchContents m' c) = KernelIdeal.Hand.argT m c
  s : ReferenceIdeal.Alg.argS (launchContents m' c) = KernelIdeal.Hand.argS m c
  P : ∀ k, ReferenceIdeal.Alg.argP (launchContents m' c) k = KernelIdeal.Hand.argP m c k

/-- Two sets of weights with the same parts are the same. -/
theorem par_congr {P Q : Par} (h1 : P.g1 = Q.g1) (h2 : P.b1 = Q.b1) (h3 : P.W = Q.W) (h4 : P.g2 = Q.g2) (h5 : P.b2 = Q.b2)
    (h6 : P.wg = Q.wg) (h7 : P.we1 = Q.we1) (h8 : P.be1 = Q.be1) (h9 : P.we2 = Q.we2) (h10 : P.be2 = Q.be2) : P = Q := by
  obtain ⟨⟩ := P
  obtain ⟨⟩ := Q
  simp only at h1 h2 h3 h4 h5 h6 h7 h8 h9 h10
  subst h1 h2 h3 h4 h5 h6 h7 h8 h9 h10
  rfl

/-- What the precondition gives the ideal program, on one device: its task, and that its arguments are finite. -/
theorem fine_kernel (hpre : Cert.Pre_KernelIdeal_finite_weights m) (c : Dev KernelIdeal.nD) :
    ∃ k : Fin 3, KernelIdeal.Hand.Fine m c k := by
  have h := Cert.Pre.finite_weights _ _ _ _ _ _ _ _ _ _ _ _ _ _ (hpre c)
  exact ⟨⟨_, h.task⟩, (by simp),
    ⟨fun r j => h.wred _, fun j => h.g2 _, fun j => h.b2 _, fun j e => h.wg _⟩⟩

/-- The ideal program and the reference compute the same five results over the extended reals. -/
theorem algebraic : Cert.algebraic_KernelIdeal_ReferenceIdeal_pre_finite_weights := by
  intro m g m' g' hpre hagree
  choose ks hF using fine_kernel m hpre
  let P := fun c => KernelIdeal.Hand.argP m c (ks c)
  let X := fun c => KernelIdeal.Hand.argX m c
  let T := fun c => KernelIdeal.Hand.argT m c
  let S := fun c => KernelIdeal.Hand.argS m c
  have hH := KernelIdeal.Hand.hyps_of_task m fun c => (Cert.Pre.finite_weights _ _ _ _ _ _ _ _ _ _ _ _ _ _ (hpre c)).task
  have hA : ∀ c, Agree m m' c := fun c => by
    obtain ⟨h0, h1, h2, h3, h4, h5, h6, h7, h8, h9, h10, h11, h12, -⟩ := hagree c
    exact ⟨funext fun b => funext fun n => funext fun j => congrFun h0 _, funext fun b => funext fun n => funext fun j => congrFun h1 _,
      funext fun q => funext fun j => congrFun h12 _, fun k => par_congr (funext fun j => congrFun h2 _) (funext fun j => congrFun h3 _)
        (funext fun r => funext fun j => congrFun h4 _) (funext fun j => congrFun h5 _) (funext fun j => congrFun h6 _)
        (funext fun j => funext fun e => congrFun h7 _) (funext fun e => funext fun j => funext fun i => congrFun h8 _)
        (funext fun e => funext fun i => congrFun h9 _) (funext fun e => funext fun i => funext fun j => congrFun h10 _)
        (funext fun e => funext fun j => congrFun h11 _)⟩
  have hF' : ∀ c : Dev KernelIdeal.nD, ReferenceIdeal.Alg.Fine (launchContents m' c) (ks c) := fun c => by
    refine ⟨?_, ?_⟩
    · exact (congrFun (hagree c).2.2.2.2.2.2.2.2.2.2.2.2.2 ix0).trans (hF c).task
    · rw [(hA c).P]; exact (hF c).P
  refine ⟨fun c y => resA (P c) (X c) (T c) (S c) (ks c) (y 0) (y 1) (y 2), fun c y => resB (P c) (X c) (T c) (S c) (ks c) (y 0) (y 1) (y 2),
    fun c y => sigA (P c) (X c (y 0) (y 1)) (T c (y 0) (y 1)), fun c y => sigB (P c) (X c (y 0) (y 1)) (T c (y 0) (y 1)),
    fun c _ => aux (P c) (X c) (T c), ?kernel, ?reference⟩
  case kernel =>
    refine θ_run_mono (θ_run_and (KernelIdeal.Hand.values m hH g ks hF) (KernelIdeal.Hand.frame m g hH)) ?_
    intro r h c
    obtain ⟨h0, h1, h2, h3, h4⟩ := h.1 c
    exact ⟨h0, h1, h2, h3, h4, h.2.1 c⟩
  case reference =>
    refine θ_run_mono (θ_run_and (ReferenceIdeal.Alg.values m' g' ks hF') (ReferenceIdeal.Value.run (F := Ideal) m' g')) ?_
    intro r h c
    obtain ⟨h0, h1, h2, h3, h4⟩ := h.1 c
    rw [(hA c).x, (hA c).t, (hA c).P] at h0 h1 h2 h3 h4
    rw [(hA c).s] at h0 h1
    exact ⟨h0, h1, h2, h3, h4, (h.2 c).2.2.2.2.2⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame.Runs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Exact.Task
public import proofs.«01_k».proof.Proof.Ideal.Task
public import proofs.«01_k».proof.Proof.Pre
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem

/-- The kernel's frame. -/
theorem frame_kernel : Cert.quiescent_Kernel := fun m g h =>
  Cert.Kernel.Hand.frame m g (Cert.Kernel.Hand.hyps_of_task m fun c => Cert.Pre.task_exists _ _ _ _ _ _ _ _ _ _ _ _ _ _ (h c))

/-- The ideal program's frame. -/
theorem frame_ideal : Cert.quiescent_KernelIdeal := fun m g h =>
  Cert.KernelIdeal.Hand.frame m g (Cert.KernelIdeal.Hand.hyps_of_task m fun c => Cert.Pre.task_exists _ _ _ _ _ _ _ _ _ _ _ _ _ _ (h c))

/-- The reference's frame. -/
theorem frame_reference : Cert.quiescent_ReferenceIdeal := fun m g _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m g)

/-- The ideal program's frame under the value claim's precondition. -/
theorem frame_ideal_finite : Cert.quiescent_KernelIdeal_pre_finite_weights := fun m g h =>
  Cert.KernelIdeal.Hand.frame m g (Cert.KernelIdeal.Hand.hyps_of_task m fun c =>
    (Cert.Pre.finite_weights _ _ _ _ _ _ _ _ _ _ _ _ _ _ (h c)).task)

/-- The reference's frame under the value claim's precondition. -/
theorem frame_reference_finite : Cert.quiescent_ReferenceIdeal_pre_finite_weights := fun m g _ =>
  frame_reference m g trivial

/-- The named constant is one third. -/
theorem preserves : Cert.preserves_Kernel_KernelIdeal :=
  IdealRules.named_const.statement _ _ _ _ _ (by rfl)

/-- All the claims. -/
theorem claim : Cert.Claim := ⟨Cert.Kernel.Gen.facts, Cert.KernelIdeal.Gen.facts, Cert.ReferenceIdeal.Gen.facts,
  Cert.Pre.facts_task, Cert.Pre.facts_finite, frame_kernel, frame_ideal, frame_ideal_finite, frame_reference,
  frame_reference_finite, preserves, algebraic⟩

end Cert.Proof

end
